-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S8x2048 : Shape := ⟨2, ![8, 2048]⟩
abbrev S32768x2048 : Shape := ⟨2, ![32768, 2048]⟩
abbrev S32x8x1024 : Shape := ⟨3, ![32, 8, 1024]⟩
abbrev S8x128 : Shape := ⟨2, ![8, 128]⟩
abbrev S1024x2048 : Shape := ⟨2, ![1024, 2048]⟩
abbrev S1x8x1024 : Shape := ⟨3, ![1, 8, 1024]⟩
abbrev S16x1024 : Shape := ⟨2, ![16, 1024]⟩
abbrev S8x1024 : Shape := ⟨2, ![8, 1024]⟩
abbrev S1024 : Shape := ⟨1, ![1024]⟩
abbrev S1x1024 : Shape := ⟨2, ![1, 1024]⟩
abbrev S16 : Shape := ⟨1, ![16]⟩
abbrev S8 : Shape := ⟨1, ![8]⟩
abbrev S1x8 : Shape := ⟨2, ![1, 8]⟩
abbrev S1 : Shape := ⟨1, ![1]⟩
abbrev S1x1 : Shape := ⟨2, ![1, 1]⟩
abbrev S32x4x1024 : Shape := ⟨3, ![32, 4, 1024]⟩
abbrev S4x1024 : Shape := ⟨2, ![4, 1024]⟩
abbrev S_ : Shape := ⟨0, ![]⟩
abbrev S1x16 : Shape := ⟨2, ![1, 16]⟩
abbrev S1x4x1024 : Shape := ⟨3, ![1, 4, 1024]⟩
abbrev S32x1024x4 : Shape := ⟨3, ![32, 1024, 4]⟩
abbrev S32x1024x2 : Shape := ⟨3, ![32, 1024, 2]⟩
abbrev S32768x2 : Shape := ⟨2, ![32768, 2]⟩

abbrev nBuf : Table → Nat
  | .hbm => 14
  | .local .tc .vmem => 7
  | .local .scVector .vmem => 2
  | _ => 0

abbrev bufTy : (tb : Table) → Fin (nBuf tb) → BufTy
  | .hbm, ⟨0, _⟩ => ⟨S4x8192x2048, .f32⟩
  | .hbm, ⟨1, _⟩ => ⟨S8x2048, .f32⟩
  | .hbm, ⟨2, _⟩ => ⟨S32768x2048, .f32⟩
  | .hbm, ⟨3, _⟩ => ⟨S32x8x1024, .f32⟩
  | .hbm, ⟨4, _⟩ => ⟨S8x128, .f32⟩
  | .hbm, ⟨5, _⟩ => ⟨S32x4x1024, .f32⟩
  | .hbm, ⟨6, _⟩ => ⟨S32x1024x4, .f32⟩
  | .hbm, ⟨7, _⟩ => ⟨S32x1024x2, .f32⟩
  | .hbm, ⟨8, _⟩ => ⟨S32x1024x2, .i32⟩
  | .hbm, ⟨9, _⟩ => ⟨S32768x2, .i32⟩
  | .hbm, ⟨10, _⟩ => ⟨S32x1024x2, .f32⟩
  | .hbm, ⟨11, _⟩ => ⟨S32768x2, .f32⟩
  | .hbm, ⟨12, _⟩ => ⟨S1x1, .f32⟩
  | .hbm, ⟨13, _⟩ => ⟨S_, .f32⟩
  | .local .tc .vmem, ⟨0, _⟩ => ⟨S1024x2048, .f32⟩
  | .local .tc .vmem, ⟨1, _⟩ => ⟨S1024x2048, .f32⟩
  | .local .tc .vmem, ⟨2, _⟩ => ⟨S8x2048, .f32⟩
  | .local .tc .vmem, ⟨3, _⟩ => ⟨S1x8x1024, .f32⟩
  | .local .tc .vmem, ⟨4, _⟩ => ⟨S1x8x1024, .f32⟩
  | .local .tc .vmem, ⟨5, _⟩ => ⟨S8x128, .f32⟩
  | .local .tc .vmem, ⟨6, _⟩ => ⟨S16x1024, .f32⟩
  | .local .scVector .vmem, ⟨0, _⟩ => ⟨S8x1024, .f32⟩
  | .local .scVector .vmem, ⟨1, _⟩ => ⟨S4x1024, .f32⟩
  | _, _ => ⟨S4x8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v1_0_scv : Ref sig .scVector := ⟨.hbm, 3, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v50 : BitVec 1 := Scalar.cmpi .eq arg0 c31_i32
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  let c0_i32_2_r0 : BitVec 32 := 0#32
  ![v1.toNat, 0, 0]
@[reducible] def k1_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k1_off2 (k1_t1 : Fin k1_t1_loop.trips) : Fin 2 → Nat :=
  let c0_i32_3 : BitVec 32 := 0#32
  let v6 : Index := Scalar.indexCast c0_i32_3
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v7 : Index := Scalar.indexCast v5
  ![0, v7.toNat]
def k1_off3 (k1_t1 : Fin k1_t1_loop.trips) : Fin 2 → Nat :=
  let c1_i32_4 : BitVec 32 := 1#32
  let v10 : Index := Scalar.indexCast c1_i32_4
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v11 : Index := Scalar.indexCast v5
  ![1, v11.toNat]
def k1_off4 (k1_t1 : Fin k1_t1_loop.trips) : Fin 2 → Nat :=
  let c2_i32_5 : BitVec 32 := 2#32
  let v14 : Index := Scalar.indexCast c2_i32_5
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v15 : Index := Scalar.indexCast v5
  ![2, v15.toNat]
def k1_off5 (k1_t1 : Fin k1_t1_loop.trips) : Fin 2 → Nat :=
  let c3_i32 : BitVec 32 := 3#32
  let v18 : Index := Scalar.indexCast c3_i32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v19 : Index := Scalar.indexCast v5
  ![3, v19.toNat]
def k1_off6 (k1_t1 : Fin k1_t1_loop.trips) : Fin 2 → Nat :=
  let c4_i32 : BitVec 32 := 4#32
  let v22 : Index := Scalar.indexCast c4_i32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v23 : Index := Scalar.indexCast v5
  ![4, v23.toNat]
def k1_off7 (k1_t1 : Fin k1_t1_loop.trips) : Fin 2 → Nat :=
  let c5_i32 : BitVec 32 := 5#32
  let v26 : Index := Scalar.indexCast c5_i32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v27 : Index := Scalar.indexCast v5
  ![5, v27.toNat]
def k1_off8 (k1_t1 : Fin k1_t1_loop.trips) : Fin 2 → Nat :=
  let c6_i32 : BitVec 32 := 6#32
  let v30 : Index := Scalar.indexCast c6_i32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v31 : Index := Scalar.indexCast v5
  ![6, v31.toNat]
def k1_off9 (k1_t1 : Fin k1_t1_loop.trips) : Fin 2 → Nat :=
  let c7_i32 : BitVec 32 := 7#32
  let v34 : Index := Scalar.indexCast c7_i32
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v35 : Index := Scalar.indexCast v5
  ![7, v35.toNat]
def k1_off10 (k1_t1 : Fin k1_t1_loop.trips) : Fin 2 → Nat :=
  let c0_i32_23 : BitVec 32 := 0#32
  let v113 : Index := Scalar.indexCast c0_i32_23
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v114 : Index := Scalar.indexCast v5
  ![0, v114.toNat]
def k1_off11 (k1_t1 : Fin k1_t1_loop.trips) : Fin 2 → Nat :=
  let c1_i32_24 : BitVec 32 := 1#32
  let v119 : Index := Scalar.indexCast c1_i32_24
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v120 : Index := Scalar.indexCast v5
  ![1, v120.toNat]
def k1_off12 (k1_t1 : Fin k1_t1_loop.trips) : Fin 2 → Nat :=
  let c2_i32_25 : BitVec 32 := 2#32
  let v125 : Index := Scalar.indexCast c2_i32_25
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v126 : Index := Scalar.indexCast v5
  ![2, v126.toNat]
def k1_off13 (k1_t1 : Fin k1_t1_loop.trips) : Fin 2 → Nat :=
  let c3_i32_26 : BitVec 32 := 3#32
  let v131 : Index := Scalar.indexCast c3_i32_26
  let c0_i32_2 : BitVec 32 := 0#32
  let c0_i32 : BitVec 32 := 0#32
  let c1_i32 : BitVec 32 := 1#32
  let arg6 : BitVec 32 := Scf.iv c0_i32 c1_i32 k1_t1
  let c1_i32_1 : BitVec 32 := 1#32
  let v3 : BitVec 32 := Scalar.muli arg6 c1_i32_1
  let v4 : BitVec 32 := Scalar.addi c0_i32_2 v3
  let c16_i32 : BitVec 32 := 16#32
  let v5 : BitVec 32 := Scalar.muli v4 c16_i32
  let v132 : Index := Scalar.indexCast v5
  ![3, v132.toNat]
def k1_off14 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r1 : BitVec 32 := 0#32
  let c0_i32_2_r1 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x2048 : Shape := ⟨3, ![4, 8192, 2048]⟩
abbrev S8x2048 : Shape := ⟨2, ![8, 2048]⟩
abbrev S32768x2048 : Shape := ⟨2, ![32768, 2048]⟩
abbrev S2048x8 : Shape := ⟨2, ![2048, 8]⟩
abbrev S32768x8 : Shape := ⟨2, ![32768, 8]⟩
abbrev S_ : Shape := ⟨0, ![]⟩
abbrev S32768 : Shape := ⟨1, ![32768]⟩
abbrev S32768x1 : Shape := ⟨2, ![32768, 1]⟩
abbrev S32768x2 : Shape := ⟨2, ![32768, 2]⟩
abbrev S4x16384 : Shape := ⟨2, ![4, 16384]⟩
abbrev S65536 : Shape := ⟨1, ![65536]⟩
abbrev S65536x1 : Shape := ⟨2, ![65536, 1]⟩
abbrev S1x8 : Shape := ⟨2, ![1, 8]⟩
abbrev S65536x8 : Shape := ⟨2, ![65536, 8]⟩
abbrev S8 : Shape := ⟨1, ![8]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8x2048, .f32⟩
  | .hbm, ⟨2, _⟩ => ⟨S32768x2048, .f32⟩
  | .hbm, ⟨3, _⟩ => ⟨S2048x8, .f32⟩
  | .hbm, ⟨4, _⟩ => ⟨S32768x8, .f32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S32768x1, .f32⟩
  | .hbm, ⟨11, _⟩ => ⟨S32768x8, .f32⟩
  | .hbm, ⟨12, _⟩ => ⟨S32768x8, .f32⟩
  | .hbm, ⟨13, _⟩ => ⟨S32768x8, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x8, .f32⟩
  | .hbm, ⟨18, _⟩ => ⟨S32768x8, .f32⟩
  | .hbm, ⟨19, _⟩ => ⟨S32768x2, .f32⟩
  | .hbm, ⟨20, _⟩ => ⟨S32768x2, .i32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x2, .f32⟩
  | .hbm, ⟨28, _⟩ => ⟨S32768x2, .f32⟩
  | .hbm, ⟨29, _⟩ => ⟨S4x16384, .i32⟩
  | .hbm, ⟨30, _⟩ => ⟨S65536, .i32⟩
  | .hbm, ⟨31, _⟩ => ⟨S65536x1, .i32⟩
  | .hbm, ⟨32, _⟩ => ⟨S1x8, .i32⟩
  | .hbm, ⟨33, _⟩ => ⟨S65536x8, .i32⟩
  | .hbm, ⟨34, _⟩ => ⟨S65536x8, .i32⟩
  | .hbm, ⟨35, _⟩ => ⟨S65536x8, .i1⟩
  | .hbm, ⟨36, _⟩ => ⟨S65536x8, .f32⟩
  | .hbm, ⟨37, _⟩ => ⟨S_, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.Route.lean ====
/- The routing of one token: what the SparseCore kernel computes from a token's eight scores. The best two scores are
   kept in one pass over the experts, together with their indices; the four values a token leaves are the two indices
   and the two normalised weights. The payloads of the printed body, read at one lane, are this function. -/
module

public import proofs.«01_k».proof.Defs
public import proofs.«01_k».proof.Proof.Gen.KernelIdeal
public import proofs.«01_k».proof.Proof.Gen.KernelIdeal.Skeleton

@[expose] public section

noncomputable section

namespace Cert.Proof.Route

open Cert.KernelIdeal Cert.KernelIdeal.Gen
open Idealize.ShloMosaic

variable {F : FTy → Type} [FloatOps F]

/-- The best two scores seen so far, and the experts they came from. -/
structure Top2 (F : FTy → Type) where
  b1 : F .f32
  b2 : F .f32
  i1 : BitVec 32
  i2 : BitVec 32

/-- The first two experts in order. -/
def Top2.start (v0 v1 : F .f32) : Top2 F where
  b1 := Scalar.select (FloatOps.cmpf .ogt v1 v0) v1 v0
  b2 := Scalar.select (FloatOps.cmpf .ogt v1 v0) v0 v1
  i1 := Scalar.select (FloatOps.cmpf .ogt v1 v0) 1#32 0#32
  i2 := Scalar.select (FloatOps.cmpf .ogt v1 v0) 0#32 1#32

/-- One more expert, `e`, of score `v`. -/
def Top2.step (e : BitVec 32) (v : F .f32) (s : Top2 F) : Top2 F where
  b1 := Scalar.select (FloatOps.cmpf .ogt v s.b1) v s.b1
  b2 := Scalar.select (FloatOps.cmpf .ogt v s.b1) s.b1 (Scalar.select (FloatOps.cmpf .ogt v s.b2) v s.b2)
  i1 := Scalar.select (FloatOps.cmpf .ogt v s.b1) e s.i1
  i2 := Scalar.select (FloatOps.cmpf .ogt v s.b1) s.i1 (Scalar.select (FloatOps.cmpf .ogt v s.b2) e s.i2)

/-- The pass over the first seven experts. -/
def top7 (s : Fin 8 → F .f32) : Top2 F :=
  ((((Top2.start (s 0) (s 1)).step 2#32 (s 2)).step 3#32 (s 3)).step 4#32 (s 4)).step 5#32 (s 5) |>.step 6#32 (s 6)

/-- The pass over all eight. -/
def top8 (s : Fin 8 → F .f32) : Top2 F := (top7 s).step 7#32 (s 7)

/-- The common factor of a token's two weights. -/
def inv (s : Fin 8 → F .f32) : F .f32 :=
  FloatOps.divf (Scalar.ofBits .f32 0x3F800000#32) (FloatOps.addf (FloatOps.addf (top8 s).b1 (top8 s).b2) (Scalar.ofBits .f32 0x1E3CE508#32))

/-- The four values a token leaves: the two experts as floats, then their two weights. -/
def route (s : Fin 8 → F .f32) : Fin 4 → F .f32
  | 0 => FloatOps.sitofp .f32 (top8 s).i1
  | 1 => FloatOps.sitofp .f32 (top8 s).i2
  | 2 => FloatOps.mulf (top8 s).b1 (inv s)
  | 3 => FloatOps.mulf (top8 s).b2 (inv s)

/-! ## The payloads at a lane -/

section Lane

variable (v8 v12 v16 v20 v24 v28 v32 v36 : FVec F S1x16 .f32)

abbrev p41 := k1_pay20 v8 v12
abbrev p42 := k1_pay21 v8 v12
abbrev p44 := k1_pay22 v8 v12
abbrev p46 := k1_pay23 v8 v12
abbrev p90 := k1_pay46 (k1_pay12 v16) (k1_pay13 v20) (k1_pay14 v24) (k1_pay15 v28) (k1_pay16 v32) (p41 v8 v12) (p42 v8 v12)
abbrev p93 := k1_pay47 (k1_pay12 v16) (k1_pay13 v20) (k1_pay14 v24) (k1_pay15 v28) (k1_pay16 v32) (p41 v8 v12) (p42 v8 v12) (p44 v8 v12) (p46 v8 v12)
abbrev p94 := k1_pay48 (k1_pay12 v16) (k1_pay13 v20) (k1_pay14 v24) (k1_pay15 v28) (k1_pay16 v32) (p41 v8 v12)
abbrev p96 := k1_pay49 (k1_pay12 v16) (k1_pay13 v20) (k1_pay14 v24) (k1_pay15 v28) (k1_pay16 v32) (p41 v8 v12) (p44 v8 v12)

/-- The lane of a one-row vector that a lane of the plain one is. -/
abbrev ln (y : S16.Idx) : S1x16.Idx := Shape.reshapeEquiv shapeCasts_S1x16_S16 y

/-- The eight scores of one lane. -/
def scoresAt (y : S1x16.Idx) : Fin 8 → F .f32
  | 0 => v8 y | 1 => v12 y | 2 => v16 y | 3 => v20 y | 4 => v24 y | 5 => v28 y | 6 => v32 y | 7 => v36 y

variable (y : S16.Idx)

/-- One step of the pass, at a lane of the printed vectors. -/
theorem step_b2 (v a b : FVec F S16 .f32) (s : Top2 F) (e : BitVec 32) (h1 : a y = s.b1) (h2 : b y = s.b2) :
    select (cmpf .ogt v a) a (select (cmpf .ogt v b) v b) y = (s.step e (v y)).b2 := by
  simp only [select, cmpf, Top2.step, h1, h2]
theorem step_b1 (v a : FVec F S16 .f32) (s : Top2 F) (e : BitVec 32) (h1 : a y = s.b1) :
    select (cmpf .ogt v a) v a y = (s.step e (v y)).b1 := by
  simp only [select, cmpf, Top2.step, h1]
theorem step_i1 (v a : FVec F S16 .f32) (i : IVec S16 32) (s : Top2 F) (e : BitVec 32) (h1 : a y = s.b1) (h3 : i y = s.i1) :
    select (cmpf .ogt v a) (broadcast S16 e) i y = (s.step e (v y)).i1 := by
  simp only [select, cmpf, broadcast, Top2.step, h1, h3]
theorem step_i2 (v a b : FVec F S16 .f32) (i j : IVec S16 32) (s : Top2 F) (e : BitVec 32)
    (h1 : a y = s.b1) (h2 : b y = s.b2) (h3 : i y = s.i1) (h4 : j y = s.i2) :
    select (cmpf .ogt v a) i (select (cmpf .ogt v b) (broadcast S16 e) j) y = (s.step e (v y)).i2 := by
  simp only [select, cmpf, broadcast, Top2.step, h1, h2, h3, h4]

/-- The vectors after the seventh expert, read at a lane. -/
theorem part_eq : p94 v8 v12 v16 v20 v24 v28 v32 y = (top7 (scoresAt v8 v12 v16 v20 v24 v28 v32 v36 (ln y))).b1
    ∧ p90 v8 v12 v16 v20 v24 v28 v32 y = (top7 (scoresAt v8 v12 v16 v20 v24 v28 v32 v36 (ln y))).b2
    ∧ p96 v8 v12 v16 v20 v24 v28 v32 y = (top7 (scoresAt v8 v12 v16 v20 v24 v28 v32 v36 (ln y))).i1
    ∧ p93 v8 v12 v16 v20 v24 v28 v32 y = (top7 (scoresAt v8 v12 v16 v20 v24 v28 v32 v36 (ln y))).i2 := by
  have a1 : p41 v8 v12 y = (Top2.start (v8 (ln y)) (v12 (ln y))).b1 := rfl
  have a2 : p42 v8 v12 y = (Top2.start (v8 (ln y)) (v12 (ln y))).b2 := rfl
  have a3 : p44 v8 v12 y = (Top2.start (v8 (ln y)) (v12 (ln y))).i1 := rfl
  have a4 : p46 v8 v12 y = (Top2.start (v8 (ln y)) (v12 (ln y))).i2 := rfl
  have b1 := step_b1 y (k1_pay12 v16) _ _ 2#32 a1
  have b2 := step_b2 y (k1_pay12 v16) _ _ _ 2#32 a1 a2
  have b3 := step_i1 y (k1_pay12 v16) _ _ _ 2#32 a1 a3
  have b4 := step_i2 y (k1_pay12 v16) _ _ _ _ _ 2#32 a1 a2 a3 a4
  have c1 := step_b1 y (k1_pay13 v20) _ _ 3#32 b1
  have c2 := step_b2 y (k1_pay13 v20) _ _ _ 3#32 b1 b2
  have c3 := step_i1 y (k1_pay13 v20) _ _ _ 3#32 b1 b3
  have c4 := step_i2 y (k1_pay13 v20) _ _ _ _ _ 3#32 b1 b2 b3 b4
  have d1 := step_b1 y (k1_pay14 v24) _ _ 4#32 c1
  have d2 := step_b2 y (k1_pay14 v24) _ _ _ 4#32 c1 c2
  have d3 := step_i1 y (k1_pay14 v24) _ _ _ 4#32 c1 c3
  have d4 := step_i2 y (k1_pay14 v24) _ _ _ _ _ 4#32 c1 c2 c3 c4
  have e1 := step_b1 y (k1_pay15 v28) _ _ 5#32 d1
  have e2 := step_b2 y (k1_pay15 v28) _ _ _ 5#32 d1 d2
  have e3 := step_i1 y (k1_pay15 v28) _ _ _ 5#32 d1 d3
  have e4 := step_i2 y (k1_pay15 v28) _ _ _ _ _ 5#32 d1 d2 d3 d4
  have f1 := step_b1 y (k1_pay16 v32) _ _ 6#32 e1
  have f2 := step_b2 y (k1_pay16 v32) _ _ _ 6#32 e1 e2
  have f3 := step_i1 y (k1_pay16 v32) _ _ _ 6#32 e1 e3
  have f4 := step_i2 y (k1_pay16 v32) _ _ _ _ _ 6#32 e1 e2 e3 e4
  exact ⟨f1, f2, f3, f4⟩

abbrev sc := scoresAt v8 v12 v16 v20 v24 v28 v32 v36

theorem last_b1 : k1_pay4 (k1_pay17 v36) (p94 v8 v12 v16 v20 v24 v28 v32) y = (top8 (sc v8 v12 v16 v20 v24 v28 v32 v36 (ln y))).b1 :=
  step_b1 y (k1_pay17 v36) _ _ 7#32 (part_eq v8 v12 v16 v20 v24 v28 v32 v36 y).1
theorem last_b2 : k1_pay3 (k1_pay17 v36) (p90 v8 v12 v16 v20 v24 v28 v32) (p94 v8 v12 v16 v20 v24 v28 v32) y
    = (top8 (sc v8 v12 v16 v20 v24 v28 v32 v36 (ln y))).b2 :=
  step_b2 y (k1_pay17 v36) _ _ _ 7#32 (part_eq v8 v12 v16 v20 v24 v28 v32 v36 y).1 (part_eq v8 v12 v16 v20 v24 v28 v32 v36 y).2.1
theorem last_inv : k1_pay5 (k1_pay17 v36) (p90 v8 v12 v16 v20 v24 v28 v32) (p94 v8 v12 v16 v20 v24 v28 v32) y
    = inv (sc v8 v12 v16 v20 v24 v28 v32 v36 (ln y)) := by
  show FloatOps.divf _ (FloatOps.addf (FloatOps.addf (k1_pay4 _ _ y) (k1_pay3 _ _ _ y)) _) = _
  rw [last_b1 v8 v12 v16 v20 v24 v28 v32 v36 y, last_b2]; rfl

theorem ln_reshape (j : S1x16.Idx) : ln (Shape.reshapeEquiv shapeCasts_S16_S1x16 j) = j := by
  unfold ln; rw [Shape.reshapeEquiv_reshapeEquiv, Shape.reshapeEquiv_self]

/-- The four stored rows of a trip, read at a lane. -/
theorem row0 (j : S1x16.Idx) : k1_pay6 (k1_pay17 v36) (p94 v8 v12 v16 v20 v24 v28 v32) (p96 v8 v12 v16 v20 v24 v28 v32) j
    = route (sc v8 v12 v16 v20 v24 v28 v32 v36 j) 0 := by
  obtain ⟨h1, h2, h3, h4⟩ := part_eq v8 v12 v16 v20 v24 v28 v32 v36 (Shape.reshapeEquiv shapeCasts_S16_S1x16 j)
  have := step_i1 _ (k1_pay17 v36) _ _ _ 7#32 h1 h3
  rw [show k1_pay17 v36 (Shape.reshapeEquiv shapeCasts_S16_S1x16 j) = v36 (ln (Shape.reshapeEquiv shapeCasts_S16_S1x16 j)) from rfl, ln_reshape] at this
  exact congrArg (FloatOps.sitofp .f32) this
theorem row1 (j : S1x16.Idx) :
    k1_pay7 (k1_pay17 v36) (p90 v8 v12 v16 v20 v24 v28 v32) (p93 v8 v12 v16 v20 v24 v28 v32) (p94 v8 v12 v16 v20 v24 v28 v32) (p96 v8 v12 v16 v20 v24 v28 v32) j
      = route (sc v8 v12 v16 v20 v24 v28 v32 v36 j) 1 := by
  obtain ⟨h1, h2, h3, h4⟩ := part_eq v8 v12 v16 v20 v24 v28 v32 v36 (Shape.reshapeEquiv shapeCasts_S16_S1x16 j)
  have := step_i2 _ (k1_pay17 v36) _ _ _ _ _ 7#32 h1 h2 h3 h4
  rw [show k1_pay17 v36 (Shape.reshapeEquiv shapeCasts_S16_S1x16 j) = v36 (ln (Shape.reshapeEquiv shapeCasts_S16_S1x16 j)) from rfl, ln_reshape] at this
  exact congrArg (FloatOps.sitofp .f32) this
theorem row2 (j : S1x16.Idx) : k1_pay8 (k1_pay17 v36) (p90 v8 v12 v16 v20 v24 v28 v32) (p94 v8 v12 v16 v20 v24 v28 v32) j
    = route (sc v8 v12 v16 v20 v24 v28 v32 v36 j) 2 := by
  show FloatOps.mulf (k1_pay4 _ _ (Shape.reshapeEquiv shapeCasts_S16_S1x16 j)) (k1_pay5 _ _ _ (Shape.reshapeEquiv shapeCasts_S16_S1x16 j)) = _
  rw [last_b1 v8 v12 v16 v20 v24 v28 v32 v36, last_inv, ln_reshape]; rfl
theorem row3 (j : S1x16.Idx) : k1_pay9 (k1_pay17 v36) (p90 v8 v12 v16 v20 v24 v28 v32) (p94 v8 v12 v16 v20 v24 v28 v32) j
    = route (sc v8 v12 v16 v20 v24 v28 v32 v36 j) 3 := by
  show FloatOps.mulf (k1_pay3 _ _ _ (Shape.reshapeEquiv shapeCasts_S16_S1x16 j)) (k1_pay5 _ _ _ (Shape.reshapeEquiv shapeCasts_S16_S1x16 j)) = _
  rw [last_b2, last_inv, ln_reshape]; rfl

end Lane

/-! ## The arrays -/

/-- Expert `e` at the token of a place of the routed rows. -/
def ix8 (e : Fin 8) (t : Fin 1024) : S8x1024.Idx := fun | 0 => e | 1 => t | ⟨_ + 2, h⟩ => absurd h (Nat.not_lt.2 (Nat.le_add_left _ _))
def ix32x8 (b : Fin 32) (e : Fin 8) (t : Fin 1024) : S32x8x1024.Idx :=
  fun | 0 => b | 1 => e | 2 => t | ⟨_ + 3, h⟩ => absurd h (Nat.not_lt.2 (Nat.le_add_left _ _))

/-- One tile's block of results from its block of scores. -/
def routeAt (f : S8x1024.Idx → F .f32) (y : S4x1024.Idx) : F .f32 := route (fun e => f (ix8 e (y 1))) (y 0)

/-- The whole array of results from the whole array of scores. -/
def routed (P : S32x8x1024.Idx → F .f32) (z : S32x4x1024.Idx) : F .f32 := route (fun e => P (ix32x8 (z 0) e (z 2))) (z 1)

end Cert.Proof.Route

end
-- ==== Proof.Rank.lean ====
/- The two greatest of eight extended reals, ties to the smaller index: what a stable sort puts first and second, and what
   one pass over the eight leaves. -/
module

public import proofs.«01_k».proof.Proof.Route
public import Idealize.ShloMosaic.Lib.SortFacts

@[expose] public section

noncomputable section

namespace Cert.Proof.Rank

open Cert.Proof.Route
open Idealize.ShloMosaic

/-- Place `x` comes before place `y`: a greater value, or an equal one at a smaller index. -/
def Before {n : ℕ} (s : Fin n → EReal) (x y : Fin n) : Prop := s y < s x ∨ (s x = s y ∧ x < y)

theorem before_of {n : ℕ} {s : Fin n → EReal} {x y : Fin n} (h : s y ≤ s x) (hx : x < y) : Before s x y :=
  (lt_or_eq_of_le h).imp id fun e => ⟨e.symm, hx⟩

theorem Before.le {n : ℕ} {s : Fin n → EReal} {x y : Fin n} (h : Before s x y) : s y ≤ s x :=
  h.elim le_of_lt fun e => e.1.ge

theorem Before.lt_of_gt {n : ℕ} {s : Fin n → EReal} {x y : Fin n} (h : Before s x y) (hx : y < x) : s y < s x :=
  h.elim id fun e => absurd e.2 (not_lt.2 hx.le)

theorem Before.asymm {n : ℕ} {s : Fin n → EReal} {x y : Fin n} (h : Before s x y) (h' : Before s y x) : False := by
  rcases h with h | h <;> rcases h' with h' | h'
  · exact lt_asymm h h'
  · exact absurd h'.1.symm h.ne'
  · exact absurd h.1.symm h'.ne'
  · exact lt_asymm h.2 h'.2

/-- `a` and `b` are the places of the greatest and of the second greatest. -/
structure IsTop (s : Fin 8 → EReal) (a b : Fin 8) : Prop where
  ne : a ≠ b
  fst : ∀ k, k ≠ a → Before s a k
  snd : ∀ k, k ≠ a → k ≠ b → Before s b k

theorem IsTop.unique {s : Fin 8 → EReal} {a b a' b' : Fin 8} (h : IsTop s a b) (h' : IsTop s a' b') : a = a' ∧ b = b' := by
  have ha : a = a' := by
    by_contra hne
    exact (h.fst a' (Ne.symm hne)).asymm (h'.fst a hne)
  subst ha
  refine ⟨rfl, ?_⟩
  by_contra hne
  exact (h.snd b' h'.ne.symm (Ne.symm hne)).asymm (h'.snd b h.ne.symm hne)

/-! ## The stable sort -/

/-- The sort's order: a strictly greater value. -/
def gt {n : ℕ} (s : Fin n → EReal) (k k' : Fin n) : Bool := decide (s k' < s k)

theorem pairwise_insert {n : ℕ} (s : Fin n → EReal) (a : Fin n) : ∀ l : List (Fin n), (∀ b ∈ l, a < b) → l.Pairwise (Before s) →
    (insertBefore (gt s) a l).Pairwise (Before s)
  | [], _, _ => List.pairwise_singleton _ _
  | b :: l, hl, hp => by
    rw [List.pairwise_cons] at hp
    unfold insertBefore
    split
    · rename_i h
      refine List.pairwise_cons.2 ⟨fun c hc => ?_, pairwise_insert s a l (fun c hc => hl c (List.mem_cons_of_mem _ hc)) hp.2⟩
      rcases List.mem_cons.1 ((perm_insertBefore (gt s) a l).mem_iff.1 hc) with rfl | hc
      · exact .inl (of_decide_eq_true h)
      · exact hp.1 c hc
    · rename_i h
      have hb : s b ≤ s a := not_lt.1 fun hlt => h (decide_eq_true hlt)
      refine List.pairwise_cons.2 ⟨fun c hc => before_of ?_ (hl c hc), List.pairwise_cons.2 hp⟩
      rcases List.mem_cons.1 hc with rfl | hc
      · exact hb
      · exact (hp.1 c hc).le.trans hb

theorem pairwise_sort {n : ℕ} (s : Fin n → EReal) : ∀ l : List (Fin n), l.Pairwise (· < ·) → (stableSort (gt s) l).Pairwise (Before s)
  | [], _ => List.Pairwise.nil
  | a :: l, hl => by
    rw [List.pairwise_cons] at hl
    unfold stableSort
    exact pairwise_insert s a _ (fun b hb => hl.1 b ((perm_stableSort (gt s) l).mem_iff.1 hb)) (pairwise_sort s l hl.2)

theorem sorted_before {n : ℕ} (s : Fin n → EReal) {i j : Fin n} (h : i < j) : Before s (sortedFrom (gt s) i) (sortedFrom (gt s) j) := by
  have hp : (sortPositions n (gt s)).Pairwise (Before s) := pairwise_sort s _ (List.pairwise_lt_finRange n)
  exact List.pairwise_iff_get.1 hp (i.cast (length_sortPositions n (gt s)).symm) (j.cast (length_sortPositions n (gt s)).symm) h

/-- The two greatest places. -/
def top (s : Fin 8 → EReal) (j : Fin 2) : Fin 8 := sortedFrom (gt s) (j.castLE (by decide))

theorem top_isTop (s : Fin 8 → EReal) : IsTop s (top s 0) (top s 1) where
  ne h := absurd (sortedFrom_injective _ h) (by decide)
  fst k hk := by
    obtain ⟨i, rfl⟩ := sortedFrom_surjective (gt s) k
    refine sorted_before s (Fin.pos_iff_ne_zero.2 fun h => hk ?_)
    rw [h]; rfl
  snd k hk hk' := by
    obtain ⟨i, rfl⟩ := sortedFrom_surjective (gt s) k
    refine sorted_before s ?_
    have h0 : i ≠ 0 := fun h => hk (by rw [h]; rfl)
    have h1 : i ≠ 1 := fun h => hk' (by rw [h]; rfl)
    show (1 : Fin 8) < i
    omega

/-! ## The pass -/

/-- What the pass holds after the first `n` places. -/
structure Seen (s : Fin 8 → EReal) (n : ℕ) (st : Top2 Ideal) (a b : Fin 8) : Prop where
  ne : a ≠ b
  ha : a.val < n
  hb : b.val < n
  b1 : st.b1 = s a
  b2 : st.b2 = s b
  i1 : st.i1 = BitVec.ofNat 32 a.val
  i2 : st.i2 = BitVec.ofNat 32 b.val
  fst : ∀ k : Fin 8, k.val < n → k ≠ a → Before s a k
  snd : ∀ k : Fin 8, k.val < n → k ≠ a → k ≠ b → Before s b k

theorem select_gt {α : Type} (x y : EReal) (u v : α) :
    Scalar.select (FloatOps.cmpf (F := Ideal) (φ := .f32) .ogt x y) u v = if y < x then u else v := by
  show Scalar.select (Ideal.cmp .ogt x y) u v = _
  unfold Ideal.cmp Scalar.select
  by_cases h : y < x <;> simp [h]

theorem seen_start (s : Fin 8 → EReal) : ∃ a b, Seen s 2 (Top2.start (F := Ideal) (s 0) (s 1)) a b := by
  unfold Top2.start
  simp only [select_gt]
  by_cases h : s 0 < s 1
  · refine ⟨1, 0, ⟨by decide, by decide, by decide, if_pos h, if_pos h, if_pos h, if_pos h, fun k hk hne => ?_, fun k hk hne hne' => ?_⟩⟩
    · obtain rfl : k = 0 := by omega
      exact .inl h
    · omega
  · refine ⟨0, 1, ⟨by decide, by decide, by decide, if_neg h, if_neg h, if_neg h, if_neg h, fun k hk hne => ?_, fun k hk hne hne' => ?_⟩⟩
    · obtain rfl : k = 1 := by omega
      exact before_of (not_lt.1 h) (by decide)
    · omega

theorem seen_step (s : Fin 8 → EReal) (e : Fin 8) (st : Top2 Ideal) (h : ∃ a b, Seen s e.val st a b) :
    ∃ a b, Seen s (e.val + 1) (st.step (BitVec.ofNat 32 e.val) (s e)) a b := by
  obtain ⟨a, b, h⟩ := h
  have hb1 := h.b1
  have hb2 := h.b2
  have old (k : Fin 8) (hk : k.val < e.val + 1) (hne : k ≠ e) : k.val < e.val := by omega
  have hae : a ≠ e := fun q => absurd h.ha (by rw [q]; exact lt_irrefl _)
  have hbe : b ≠ e := fun q => absurd h.hb (by rw [q]; exact lt_irrefl _)
  unfold Top2.step
  simp only [select_gt, hb1, hb2]
  by_cases h1 : s a < s e
  · refine ⟨e, a, ⟨hae.symm, Nat.lt_succ_self _, Nat.lt_succ_of_lt h.ha, if_pos h1, if_pos h1, if_pos h1, (if_pos h1).trans h.i1, fun k hk hne => ?_, fun k hk hne hne' => ?_⟩⟩
    · by_cases hka : k = a
      · rw [hka]; exact .inl h1
      · exact .inl ((h.fst k (old k hk hne) hka).le.trans_lt h1)
    · exact h.fst k (old k hk hne) hne'
  · have hle : s e ≤ s a := not_lt.1 h1
    by_cases h2 : s b < s e
    · refine ⟨a, e, ⟨hae, Nat.lt_succ_of_lt h.ha, Nat.lt_succ_self _, if_neg h1, (if_neg h1).trans (if_pos h2), (if_neg h1).trans h.i1, (if_neg h1).trans (if_pos h2),
        fun k hk hne => ?_, fun k hk hne hne' => ?_⟩⟩
      · by_cases hke : k = e
        · rw [hke]; exact before_of hle h.ha
        · exact h.fst k (old k hk hke) hne
      · by_cases hkb : k = b
        · rw [hkb]; exact .inl h2
        · exact .inl ((h.snd k (old k hk hne') hne hkb).le.trans_lt h2)
    · refine ⟨a, b, ⟨h.ne, Nat.lt_succ_of_lt h.ha, Nat.lt_succ_of_lt h.hb, if_neg h1, (if_neg h1).trans (if_neg h2), (if_neg h1).trans h.i1, (if_neg h1).trans ((if_neg h2).trans h.i2),
        fun k hk hne => ?_, fun k hk hne hne' => ?_⟩⟩
      · by_cases hke : k = e
        · rw [hke]; exact before_of hle h.ha
        · exact h.fst k (old k hk hke) hne
      · by_cases hke : k = e
        · rw [hke]; exact before_of (not_lt.1 h2) h.hb
        · exact h.snd k (old k hk hke) hne hne'

/-- The pass leaves the two greatest and their places. -/
theorem pass_top (s : Fin 8 → EReal) : (top8 (F := Ideal) s).b1 = s (top s 0) ∧ (top8 (F := Ideal) s).b2 = s (top s 1)
    ∧ (top8 (F := Ideal) s).i1 = BitVec.ofNat 32 (top s 0).val ∧ (top8 (F := Ideal) s).i2 = BitVec.ofNat 32 (top s 1).val := by
  obtain ⟨a, b, h⟩ := seen_step s 7 _ (seen_step s 6 _ (seen_step s 5 _ (seen_step s 4 _ (seen_step s 3 _ (seen_step s 2 _ (seen_start s))))))
  have ht : IsTop s a b := ⟨h.ne, fun k hk => h.fst k k.isLt hk, fun k hk hk' => h.snd k k.isLt hk hk'⟩
  obtain ⟨ha, hb⟩ := ht.unique (top_isTop s)
  rw [← ha, ← hb]
  exact ⟨h.b1, h.b2, h.i1, h.i2⟩

end Cert.Proof.Rank

end
-- ==== Proof.Soft.lean ====
/- The normalised scores of one token over the extended reals, the constants of the two programs, and what the gate block's
   own ranking of a token's scores picks. A token's scores are either all nonnegative, or all the least extended real
   (where a logit is infinite). -/
module

public import proofs.«01_k».proof.Proof.Rank
public import Idealize.ShloMosaic.PureOps.Ideal.Laws
public import Idealize.ShloMosaic.Lib.IdealHost

@[expose] public section

noncomputable section

namespace Cert.Proof.Soft

open Cert.Proof.Rank
open Idealize.ShloMosaic

/-! ## The constants -/

theorem c_ninf : Ideal.ofBits .f32 0xFF800000#32 = ⊥ := by simp [Ideal.ofBits, Ideal.ieee]
theorem c_neg1 : Ideal.ofBits .f32 0xBF800000#32 = ((-1 : ℝ) : EReal) := by
  simp [Ideal.ofBits, Ideal.ieee, -EReal.coe_mul, -EReal.coe_neg]; norm_num
theorem c_8 : Ideal.ofBits .f32 0x41000000#32 = ((8 : ℝ) : EReal) := by
  simp [Ideal.ofBits, Ideal.ieee, -EReal.coe_mul]; norm_num
theorem c_32768 : Ideal.ofBits .f32 0x47000000#32 = ((32768 : ℝ) : EReal) := by
  simp [Ideal.ofBits, Ideal.ieee, -EReal.coe_mul]; norm_num
theorem c_65536 : Ideal.ofBits .f32 0x47800000#32 = ((65536 : ℝ) : EReal) := by
  simp [Ideal.ofBits, Ideal.ieee, -EReal.coe_mul]; norm_num
theorem c_8192th : Ideal.ofBits .f32 0x39000000#32 = ((1 / 8192 : ℝ) : EReal) := by
  simp [Ideal.ofBits, Ideal.ieee, -EReal.coe_mul]; norm_num
/-- The small constant in the weights' denominators is positive, and so is the loss's factor. -/
theorem c_eps : 0 < Ideal.ofBits .f32 0x1E3CE508#32 := by
  simp [Ideal.ofBits, Ideal.ieee, -EReal.coe_mul]
theorem c_alpha : 0 < Ideal.ofBits .f32 0x3A83126F#32 := by
  simp [Ideal.ofBits, Ideal.ieee, -EReal.coe_mul]

/-! ## The scores -/

/-- The greatest of eight. -/
def big (l : Fin 8 → EReal) : EReal := Finset.univ.fold max ⊥ l

theorem le_big (l : Fin 8 → EReal) (k : Fin 8) : l k ≤ big l := by
  unfold big; exact Finset.le_fold_max _ |>.2 (.inr ⟨k, Finset.mem_univ k, le_rfl⟩)

theorem big_le (l : Fin 8 → EReal) (c : EReal) (h : ∀ k, l k ≤ c) : big l ≤ c := by
  unfold big; exact (Finset.fold_max_le _).2 ⟨bot_le, fun k _ => h k⟩

theorem big_mem (l : Fin 8 → EReal) : ∃ k, big l = l k := by
  have ht := top_isTop l
  refine ⟨top l 0, le_antisymm (big_le l _ fun k => ?_) (le_big l _)⟩
  by_cases h : k = top l 0
  · rw [h]
  · exact (ht.fst k h).le

/-- A token's scores from its logits. -/
def soft (l : Fin 8 → EReal) (e : Fin 8) : EReal := Ideal.div (Ideal.exp (l e - big l)) (∑ k, Ideal.exp (l k - big l))

theorem exp_nonneg (x : EReal) : 0 ≤ Ideal.exp x := by
  induction x with
  | bot => exact le_rfl
  | top => exact le_top
  | coe r => rw [Ideal.exp_coe]; exact EReal.coe_nonneg.2 (Real.exp_pos r).le

theorem div_nonneg {x y : EReal} (hx : 0 ≤ x) (hy : 0 < y) : 0 ≤ Ideal.div x y := by
  unfold Ideal.div; rw [if_neg hy.ne']
  exact mul_nonneg hx (EReal.inv_nonneg_of_nonneg hy.le)

theorem soft_cases (l : Fin 8 → EReal) : (∀ e, soft l e = ⊥) ∨ ∀ e, 0 ≤ soft l e := by
  obtain ⟨k, hk⟩ := big_mem l
  have bad (h : ∀ e, l e - big l = ⊥) : ∀ e, soft l e = ⊥ := fun e => by
    unfold soft; simp only [h, Ideal.exp_bot, Finset.sum_const_zero]; simp [Ideal.div]
  cases hb : big l with
  | bot =>
    refine .inl (bad fun e => ?_)
    have := le_big l e
    rw [hb, le_bot_iff] at this
    rw [hb, this]; rfl
  | top => exact .inl (bad fun e => by rw [hb, EReal.sub_top])
  | coe r =>
    refine .inr fun e => div_nonneg (exp_nonneg _) ?_
    refine lt_of_lt_of_le ?_ (Finset.single_le_sum (f := fun k => Ideal.exp (l k - big l)) (fun i _ => exp_nonneg _) (Finset.mem_univ k))
    rw [← hk, hb, ← EReal.coe_sub, sub_self, Ideal.exp_coe]
    exact EReal.coe_pos.2 (Real.exp_pos _)

/-! ## The gate block's ranking -/

/-- The least index, as a word, at which `q` holds; 8 where it nowhere does. -/
def least (q : Fin 8 → Prop) [DecidablePred q] : BitVec 32 :=
  Finset.univ.fold IntOp.minsi 2147483647#32 fun e : Fin 8 => if q e then BitVec.ofNat 32 e.val else 8#32

theorem least_eq {q : Fin 8 → Prop} [DecidablePred q] {a : Fin 8} (h : q a) (h' : ∀ k, k < a → ¬ q k) : least q = BitVec.ofNat 32 a.val := by
  have key : ∀ p : Fin 8 → Bool, ∀ a : Fin 8, p a = true → (∀ k, k < a → p k = false) →
      (Finset.univ.fold IntOp.minsi 2147483647#32 fun e : Fin 8 => if p e = true then BitVec.ofNat 32 e.val else 8#32) = BitVec.ofNat 32 a.val := by
    decide +kernel
  have := key (fun e => decide (q e)) a (decide_eq_true h) (fun k hk => decide_eq_false (h' k hk))
  simpa [least] using this

theorem big_eq {s : Fin 8 → EReal} {a : Fin 8} (h : ∀ k, s k ≤ s a) : big s = s a := le_antisymm (big_le s _ h) (le_big s a)

/-- The place the gate block ranks first. -/
def i1 (s : Fin 8 → EReal) : BitVec 32 := least fun e => s e = big s
/-- The scores with the first place's lowered. -/
def rest (s : Fin 8 → EReal) (e : Fin 8) : EReal := Scalar.select (IntOp.cmpi .eq (BitVec.ofNat 32 e.val) (i1 s)) ((-1 : ℝ) : EReal) (s e)
/-- The place it ranks second. -/
def i2 (s : Fin 8 → EReal) : BitVec 32 := least fun e => rest s e = big (rest s)
/-- Whether a place is one of the two. -/
def hit (s : Fin 8 → EReal) (e : Fin 8) : BitVec 1 :=
  IntOp.ori (IntOp.cmpi .eq (BitVec.ofNat 32 e.val) (i1 s)) (IntOp.cmpi .eq (BitVec.ofNat 32 e.val) (i2 s))

theorem cmp_eq (a b : Fin 8) : IntOp.cmpi .eq (BitVec.ofNat 32 a.val) (BitVec.ofNat 32 b.val) = if a = b then 1#1 else 0#1 := by
  revert a b; decide +kernel

theorem i1_eq (s : Fin 8 → EReal) : i1 s = BitVec.ofNat 32 (top s 0).val := by
  have ht := top_isTop s
  have hb : big s = s (top s 0) := big_eq fun k => by
    by_cases h : k = top s 0
    · rw [h]
    · exact (ht.fst k h).le
  unfold i1
  refine least_eq hb.symm fun k hk => ?_
  rw [hb]; exact ((ht.fst k hk.ne).lt_of_gt hk).ne

theorem rest_eq (s : Fin 8 → EReal) (e : Fin 8) : rest s e = if e = top s 0 then ((-1 : ℝ) : EReal) else s e := by
  unfold rest; rw [i1_eq, cmp_eq]
  by_cases h : e = top s 0 <;> simp [h, Scalar.select]

theorem i2_eq {s : Fin 8 → EReal} (hs : ∀ e, 0 ≤ s e) : i2 s = BitVec.ofNat 32 (top s 1).val := by
  have ht := top_isTop s
  have hneg (e : Fin 8) : ((-1 : ℝ) : EReal) < s e := lt_of_lt_of_le (by exact_mod_cast (by norm_num : (-1 : ℝ) < 0)) (hs e)
  have h1 : rest s (top s 1) = s (top s 1) := by rw [rest_eq, if_neg ht.ne.symm]
  have hb : big (rest s) = rest s (top s 1) := big_eq fun k => by
    rw [h1, rest_eq]
    split
    · exact (hneg _).le
    · rename_i h
      by_cases h' : k = top s 1
      · rw [h']
      · exact (ht.snd k h h').le
  unfold i2
  refine least_eq hb.symm fun k hk => ?_
  rw [hb, h1, rest_eq]
  split
  · exact (hneg _).ne
  · rename_i h
    exact ((ht.snd k h hk.ne).lt_of_gt hk).ne

/-- A place's count: one where it is one of the two, else zero. -/
def count (s : Fin 8 → EReal) (e : Fin 8) : EReal := Scalar.select (hit s e) 1 0
/-- The same from the sorted places. -/
def tally (s : Fin 8 → EReal) (e : Fin 8) : EReal := ∑ j : Fin 2, if top s j = e then 1 else 0

theorem count_nonneg (s : Fin 8 → EReal) (e : Fin 8) : 0 ≤ count s e := by
  unfold count Scalar.select; split <;> simp

theorem tally_nonneg (s : Fin 8 → EReal) (e : Fin 8) : 0 ≤ tally s e :=
  Finset.sum_nonneg fun j _ => by split <;> simp

theorem count_top (s : Fin 8 → EReal) : 0 < count s (top s 0) := by
  unfold count hit; rw [i1_eq, cmp_eq, if_pos rfl]
  have : ∀ b : BitVec 1, IntOp.ori 1#1 b = 1#1 := by decide
  rw [this]; simp [Scalar.select]

theorem tally_top (s : Fin 8 → EReal) : 0 < tally s (top s 0) := by
  refine lt_of_lt_of_le ?_ (Finset.single_le_sum (f := fun j : Fin 2 => if top s j = top s 0 then (1 : EReal) else 0) (fun j _ => by split <;> simp) (Finset.mem_univ 0))
  simp

theorem count_eq {s : Fin 8 → EReal} (hs : ∀ e, 0 ≤ s e) (e : Fin 8) : count s e = tally s e := by
  have ht := top_isTop s
  unfold count hit tally; rw [i1_eq, i2_eq hs, cmp_eq, cmp_eq, Fin.sum_univ_two]
  by_cases h0 : e = top s 0
  · subst h0
    have := ht.ne
    simp [this, this.symm, Scalar.select, IntOp.ori]
  · by_cases h1 : e = top s 1
    · subst h1
      simp [h0, ht.ne, Scalar.select, IntOp.ori]
    · simp [h0, h1, Ne.symm h0, Ne.symm h1, Scalar.select, IntOp.ori]

end Cert.Proof.Soft

end
-- ==== Proof.Common.lean ====
/- The launch set-up: the program as the launch theorem of the SparseCore kernel sees it, the resource algebra, what the
   handshakes carry, and the rows each tile holds. A tile `(c, i)` works on block `2 * i + c` of the 32. -/
module

public import proofs.«01_k».proof.Proof.Route
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import proofs.«01_k».proof.Proof.Gen.KernelIdeal.Launch

@[expose] public section

noncomputable section

namespace Cert.Proof.Common

open Cert.KernelIdeal Cert.KernelIdeal.Gen
open Cert.Proof.Route

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

section Setup
variable [FloatOps F]
abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
end Setup

abbrev 𝒱₀ : Variants := Variants.none
abbrev 𝒱 : Variants := 𝒱₀.lift
abbrev v₀ : 𝒱.V := Sum.inl none

variable [FloatOps F]

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the copies' counters -/

abbrev UH : Type := URounds (GSem nD τ sig) ℕ
abbrev UP : Type := UR sig nD τ
abbrev UU : Type := UH × (UP × Counters)

local notation "𝕄" => MT nD τ sig (HIx 1) (Elt F) ℕ UU ℕ

omit [FloatOps F] in
abbrev EH : Emb UH (MT nD τ sig (HIx 1) (Elt F) ℕ UU ℕ) := embL
omit [FloatOps F] in
/-- Where the pipeline's rounds lie: the first of the second component's two. -/
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP embR; infer_instance

/-! ## The buffers and the rows -/

/-- The scores (the TensorCore call's first result) and the routed rows (the SparseCore call's), as locations of device `d`. -/
abbrev sLoc (d : Dev nD) : Loc nD τ sig := (SparseCore.T d).loc main_v1_0
abbrev oLoc (d : Dev nD) : Loc nD τ sig := (SparseCore.T d).loc main_v2

abbrev xV : Memref sig .scVector .hbm S32x8x1024 .f32 := Memref.whole main_v1_0_scv
abbrev oV : Memref sig .scVector .hbm S32x4x1024 .f32 := Memref.whole main_v2_scv

theorem hdiv8 : 32 ∣ S32x8x1024.size 0 := ⟨1, rfl⟩
theorem hdiv4 : 32 ∣ S32x4x1024.size 0 := ⟨1, rfl⟩
abbrev row8 (w : Fin 32) : Rect S32x8x1024 := Rect.part (s := S32x8x1024) (a₀ := 0) hdiv8 w
abbrev row4 (w : Fin 32) : Rect S32x4x1024 := Rect.part (s := S32x4x1024) (a₀ := 0) hdiv4 w
abbrev set8 (w : Fin 32) : Finset S32x8x1024.Idx := ((xV).view.slice (row8 w)).set
abbrev set4 (w : Fin 32) : Finset S32x4x1024.Idx := ((oV).view.slice (row4 w)).set

/-- The block tile `(c, i)` works on. -/
def wid (c : Fin 2) (i : Fin 16) : Fin 32 := ⟨2 * i.val + c.val, by omega⟩

/-- The tiles are the blocks. -/
def tiles : Fin 2 × Fin 16 ≃ Fin 32 where
  toFun p := wid p.1 p.2
  invFun w := (⟨w.val % 2, by omega⟩, ⟨w.val / 2, by omega⟩)
  left_inv := fun ⟨c, i⟩ => Prod.ext (Fin.ext (by simp [wid]; omega)) (Fin.ext (by simp [wid]; omega))
  right_inv := fun w => Fin.ext (by simp [wid]; omega)

/-! ## What the handshakes carry -/

variable (m : (ℓ : Loc nD τ sig) → Buf (Elt F) ℓ) (Sc : (d : Dev nD) → Buf (Elt F) (sLoc d))

abbrev xRowPts (d : Dev nD) (w : Fin 32) : sProp 𝕄 := sLoc d ↦[set8 w]{fullShare} Sc d
abbrev oRowPts (d : Dev nD) (w : Fin 32) (f : Buf (Elt F) (oLoc d)) : sProp 𝕄 := oLoc d ↦[set4 w]{fullShare} f

/-- The result array the call leaves on device `d`. -/
abbrev Out (d : Dev nD) : Buf (Elt F) (oLoc d) := routed (F := F) (Sc d)

abbrev goPts (d : Dev nD) (w : Fin 32) : sProp 𝕄 := iprop(xRowPts Sc d w ∗ oRowPts d w (m (oLoc d)))
abbrev tdPts (d : Dev nD) (w : Fin 32) : sProp 𝕄 := iprop(xRowPts Sc d w ∗ oRowPts d w (Out Sc d))

abbrev stPts (d : Dev nD) (c : Fin 2) : sProp 𝕄 := bigSep Finset.univ fun i : Fin ((K (F := F)).nSub 0) => goPts m Sc d (wid c (Fin.cast nSub_zero i))
abbrev dnPts (d : Dev nD) (c : Fin 2) : sProp 𝕄 := bigSep Finset.univ fun i : Fin ((K (F := F)).nSub 0) => tdPts Sc d (wid c (Fin.cast nSub_zero i))

/-- Each SparseCore takes its sixteen tiles' rows of the scores and of the result, and brings them back, the result's at
    what the routing leaves. -/
def P : (K (F := F)).Pay (nD := nD) (Val := Elt F) (Name := ℕ) (U := UU) where
  st := fun q d c => match q with | 0 => stPts m Sc d (Fin.cast nCore_zero c)
  dn := fun q d c => match q with | 0 => dnPts Sc d (Fin.cast nCore_zero c)
  go := fun q d c i => match q with | 0 => goPts m Sc d (wid (Fin.cast nCore_zero c) (Fin.cast nSub_zero i))
  td := fun q d c i => match q with | 0 => tdPts Sc d (wid (Fin.cast nCore_zero c) (Fin.cast nSub_zero i))
  x := fun _ _ => iprop(emp)

instance P_storable : (P (F := F) m Sc).IsStorable where
  st q d c := match q with
    | 0 => (inferInstance : BI.Storable (upEmb : UEmb _ 𝕄) (stPts m Sc d (Fin.cast nCore_zero c)))
  dn q d c := match q with
    | 0 => (inferInstance : BI.Storable (upEmb : UEmb _ 𝕄) (dnPts Sc d (Fin.cast nCore_zero c)))
  go q d c i := match q with
    | 0 => (inferInstance : BI.Storable (upEmb : UEmb _ 𝕄) (goPts m Sc d (wid (Fin.cast nCore_zero c) (Fin.cast nSub_zero i))))
  td q d c i := match q with
    | 0 => (inferInstance : BI.Storable (upEmb : UEmb _ 𝕄) (tdPts Sc d (wid (Fin.cast nCore_zero c) (Fin.cast nSub_zero i))))

/-- A SparseCore's operands are its tiles' as they stand. -/
theorem vecSplit : (K (F := F)).VecSplit' (P m Sc) 0 := by
  intro d c
  show stPts m Sc d (Fin.cast nCore_zero c) ⊢ |={Set.univ}=> iprop(stPts m Sc d (Fin.cast nCore_zero c)
    ∗ (dnPts Sc d (Fin.cast nCore_zero c) -∗ dnPts Sc d (Fin.cast nCore_zero c)))
  iintro H; imodintro
  isplitl [H]; · iexact H
  iintro H; iexact H

/-! ## The rows split and join -/

omit [FloatOps F] in
theorem set8_eq (w : Fin 32) : set8 w = (row8 w).set := by
  show ((View.whole (main_v1_0_scv : Ref sig .scVector)).slice (row8 w)).set = _
  rw [View.set_slice]; exact Finset.map_refl
omit [FloatOps F] in
theorem set4_eq (w : Fin 32) : set4 w = (row4 w).set := by
  show ((View.whole (main_v2_scv : Ref sig .scVector)).slice (row4 w)).set = _
  rw [View.set_slice]; exact Finset.map_refl
omit [FloatOps F] in
theorem set8_disjoint : ∀ i ∈ (Finset.univ : Finset (Fin 32)), ∀ j ∈ (Finset.univ : Finset (Fin 32)), i ≠ j → Disjoint (set8 i) (set8 j) :=
  fun i _ j _ h => by rw [set8_eq, set8_eq]; exact Rect.part_disjoint hdiv8 h
omit [FloatOps F] in
theorem set4_disjoint : ∀ i ∈ (Finset.univ : Finset (Fin 32)), ∀ j ∈ (Finset.univ : Finset (Fin 32)), i ≠ j → Disjoint (set4 i) (set4 j) :=
  fun i _ j _ h => by rw [set4_eq, set4_eq]; exact Rect.part_disjoint hdiv4 h
omit [FloatOps F] in
theorem set8_cover : (Finset.univ : Finset (Fin 32)).biUnion set8 = Finset.univ :=
  (Finset.biUnion_congr rfl fun i _ => set8_eq i).trans (Rect.biUnion_part hdiv8)
omit [FloatOps F] in
theorem set4_cover : (Finset.univ : Finset (Fin 32)).biUnion set4 = Finset.univ :=
  (Finset.biUnion_congr rfl fun i _ => set4_eq i).trans (Rect.biUnion_part hdiv4)

omit [FloatOps F] in
theorem s_rows (d : Dev nD) (f : Buf (Elt F) (sLoc d)) :
    (sLoc d ↦{fullShare} f : sProp 𝕄) = bigSep Finset.univ fun w : Fin 32 => sLoc d ↦[set8 w]{fullShare} f := by
  rw [← pointsTo_biUnion Finset.univ (ℓ := sLoc d) set8 set8_disjoint, set8_cover]; try rfl
omit [FloatOps F] in
theorem o_rows (d : Dev nD) (f : Buf (Elt F) (oLoc d)) :
    (oLoc d ↦{fullShare} f : sProp 𝕄) = bigSep Finset.univ fun w : Fin 32 => oLoc d ↦[set4 w]{fullShare} f := by
  rw [← pointsTo_biUnion Finset.univ (ℓ := oLoc d) set4 set4_disjoint, set4_cover]; try rfl

omit [FloatOps F] in
/-- The 32 blocks are two SparseCores of sixteen tiles each. -/
theorem bigSep_tiles (Φ : Fin 32 → sProp 𝕄) :
    bigSep Finset.univ Φ = bigSep Finset.univ fun c : Fin 2 => bigSep Finset.univ fun i : Fin 16 => Φ (wid c i) :=
  (bigSep_univ_equiv tiles Φ).trans (bigSep_univ_prod fun p : Fin 2 × Fin 16 => Φ (wid p.1 p.2))

/-- What the call takes, over both SparseCores: the scores and the result array whole. -/
theorem st_eq (d : Dev nD) :
    (bigSep Finset.univ fun c : Fin ((K (F := F)).nCore 0) => (P m Sc).st 0 d c) = iprop((sLoc d ↦{fullShare} Sc d) ∗ (oLoc d ↦{fullShare} m (oLoc d))) := by
  rw [s_rows, o_rows, ← bigSep_sep']
  exact (bigSep_tiles fun w => goPts m Sc d w).symm
theorem dn_eq (d : Dev nD) :
    (bigSep Finset.univ fun c : Fin ((K (F := F)).nCore 0) => (P m Sc).dn 0 d c) = iprop((sLoc d ↦{fullShare} Sc d) ∗ (oLoc d ↦{fullShare} Out Sc d)) := by
  rw [s_rows, o_rows, ← bigSep_sep']
  exact (bigSep_tiles fun w => tdPts Sc d w).symm

end Cert.Proof.Common

end
-- ==== Proof.Gate.lean ====
/- The gating kernel's body at one grid point, on symbolic memrefs: the scores of the block stored, the accumulator set
   at the first point and added to afterwards, the auxiliary loss stored at the last. -/
module

public import proofs.«01_k».proof.Proof.Common
public import proofs.«01_k».proof.Proof.Gen.KernelIdeal.Skeleton
public import proofs.«01_k».proof.Proof.Gen.KernelIdeal.Points
public import Idealize.ShloMosaic.Lib.Pipeline.Frame
public import Idealize.ShloMosaic.Lib.Pipeline.Value

@[expose] public section

noncomputable section

namespace Cert.Proof.Gate

open Cert.KernelIdeal Cert.KernelIdeal.Gen
open Cert.Proof.Common

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The first point's condition and the later points', as the body computes them. -/
abbrev first (i : grid0.Coords) : Prop := Scalar.cmpi .ne (Scalar.extui (Scalar.cmpi .eq (BitVec.ofNat 32 (i 0).val) 0#32) : BitVec 32) 0#32 = 1#1
abbrev later (i : grid0.Coords) : Prop := Scalar.cmpi .ne (Scalar.extui (Scalar.cmpi .sgt (BitVec.ofNat 32 (i 0).val) 0#32) : BitVec 32) 0#32 = 1#1
abbrev final (i : grid0.Coords) : Prop := k0_cond3 i = 1#1

theorem first_iff : ∀ t : Fin cfg0.N, first (grid0.coords t) ↔ t.val = 0 := (by decide +kernel : ∀ t : Fin grid0.N, first (grid0.coords t) ↔ t.val = 0)
theorem later_iff : ∀ t : Fin cfg0.N, later (grid0.coords t) ↔ t.val ≠ 0 := (by decide +kernel : ∀ t : Fin grid0.N, later (grid0.coords t) ↔ t.val ≠ 0)
theorem final_iff : ∀ t : Fin cfg0.N, final (grid0.coords t) ↔ t.val = 31 := (by decide +kernel : ∀ t : Fin grid0.N, final (grid0.coords t) ↔ t.val = 31)

/-- The constant one the counts are built from. -/
abbrev one : F .f32 := Scalar.ofBits .f32 0x3F800000#32

/-- What one point adds to the accumulator, at its first use and later. -/
def set0 (x : Vec F S1024x2048 .f32) (w : Vec F S8x2048 .f32) : Vec F S16x1024 .f32 := k0_pay2 (k0_pay5 x w) (k0_pay7 x w) one
def add0 (x : Vec F S1024x2048 .f32) (w : Vec F S8x2048 .f32) (a : Vec F S16x1024 .f32) : Vec F S16x1024 .f32 := k0_pay3 (k0_pay5 x w) (k0_pay7 x w) one a

section Whole

variable {sp : Space} {s : Shape} {e : EltTy}

omit [FloatOps F] in
/-- A store through the whole shape leaves its payload. -/
theorem read_store (v : View sig .tc sp s e) (f : v.ty.Contents (Elt F)) {off : Fin s.rank → ℕ} (hz : off = fun _ => 0)
    (inb : ∀ a, off a + s.size a ≤ s.size a) (w : s.Idx → Elt F e) (L : List (View.Piece (Elt F) s e)) :
    v.read (Elt F) (v.writes (Elt F) f (⟨Rect.unit off s.size inb, w⟩ :: L)) = w := by
  subst hz; funext y
  have h := View.read_writes_cons_emb (Val := Elt F) v f (Rect.whole s) w L y
  rw [Rect.emb_whole_apply] at h
  exact h

omit [FloatOps F] in
/-- A load through the whole shape reads the contents. -/
theorem read_load (v : View sig .tc sp s e) (f : v.ty.Contents (Elt F)) {off : Fin s.rank → ℕ} (hz : off = fun _ => 0)
    (inb : ∀ a, off a + s.size a ≤ s.size a) :
    v.readAt (Elt F) (Rect.unit off s.size inb).toLoadRect f = v.read (Elt F) f := by
  rw [View.readAt_eq_ld]; exact View.ld_unit_zero hz inb _

end Whole

theorem z2 : (![0, 0] : Fin 2 → ℕ) = fun _ => 0 := by decide
theorem z3 : (![0, 0, 0] : Fin 3 → ℕ) = fun _ => 0 := by decide

section Run

variable (c : Dev nD) (i : grid0.Coords)
  (a1 : Memref sig .tc .vmem S1024x2048 .f32) (h1 : a1.IsWhole) (a2 : Memref sig .tc .vmem S8x2048 .f32) (h2 : a2.IsWhole)
  (a3 : Memref sig .tc .vmem S1x8x1024 .f32) (h3 : a3.IsWhole) (a4 : Memref sig .tc .vmem S8x128 .f32) (h4 : a4.IsWhole)
  (a5 : Memref sig .tc .vmem S16x1024 .f32) (h5 : a5.IsWhole)
  (x : Vec F S1024x2048 .f32) (w : Vec F S8x2048 .f32) (d3 : Vec F S1x8x1024 .f32) (d4 : Vec F S8x128 .f32) (d5 : Vec F S16x1024 .f32)

/-- The body at the first point. -/
theorem run_first (hf : first i) (hl : ¬ later i) (he : ¬ final i)
    (Q : PUnit → sProp 𝕄) :
    iprop(owns (c : Thread nD τ) a1 fullShare x ∗ owns (c : Thread nD τ) a2 fullShare w ∗ owns (c : Thread nD τ) a3 fullShare d3
        ∗ owns (c : Thread nD τ) a4 fullShare d4 ∗ owns (c : Thread nD τ) a5 fullShare d5
        ∗ (iprop(owns (c : Thread nD τ) a1 fullShare x ∗ owns (c : Thread nD τ) a2 fullShare w ∗ owns (c : Thread nD τ) a3 fullShare (k0_pay6 x w)
            ∗ owns (c : Thread nD τ) a4 fullShare d4 ∗ owns (c : Thread nD τ) a5 fullShare (set0 x w)) -∗ Q ⟨⟩))
      ⊢ wp frame (wpE (defs₀ (F := F)) Variants.none c none) Set.univ (cc0__gate_block i a1 h1 a2 h2 a3 h3 a4 h4 a5 h5) Q := by
  simp only [cc0__gate_block_eq_skeleton]; unfold cc0__gate_block_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  sl_exec
  sl_step
  subst hf1; subst hf2; subst hf5
  iapply Hk
  isplitl [H1]
  · iexists f1; isplitr; · ipureintro; rfl
    iexact H1
  isplitl [H2]
  · iexists f2; isplitr; · ipureintro; rfl
    iexact H2
  isplitl [H3]
  · iexists _; isplitr; swap; · iexact H3
    ipureintro
    refine (read_store _ _ z3 _ _ _).trans ?_
    rw [read_load _ _ z2, read_load _ _ z2]
  isplitl [H4]
  · iexists f4; isplitr; · ipureintro; exact hf4
    iexact H4
  iexists _; isplitr; swap; · iexact H5
  ipureintro
  refine (read_store _ _ z2 _ _ _).trans ?_
  dsimp only [set0]
  rw [read_load _ _ z2, read_load _ _ z2]; rfl

/-- The body at a point between the first and the last. -/
theorem run_later (hf : ¬ first i) (hl : later i) (he : ¬ final i)
    (Q : PUnit → sProp 𝕄) :
    iprop(owns (c : Thread nD τ) a1 fullShare x ∗ owns (c : Thread nD τ) a2 fullShare w ∗ owns (c : Thread nD τ) a3 fullShare d3
        ∗ owns (c : Thread nD τ) a4 fullShare d4 ∗ owns (c : Thread nD τ) a5 fullShare d5
        ∗ (iprop(owns (c : Thread nD τ) a1 fullShare x ∗ owns (c : Thread nD τ) a2 fullShare w ∗ owns (c : Thread nD τ) a3 fullShare (k0_pay6 x w)
            ∗ owns (c : Thread nD τ) a4 fullShare d4 ∗ owns (c : Thread nD τ) a5 fullShare (add0 x w d5)) -∗ Q ⟨⟩))
      ⊢ wp frame (wpE (defs₀ (F := F)) Variants.none c none) Set.univ (cc0__gate_block i a1 h1 a2 h2 a3 h3 a4 h4 a5 h5) Q := by
  simp only [cc0__gate_block_eq_skeleton]; unfold cc0__gate_block_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  sl_exec
  sl_step
  subst hf1; subst hf2; subst hf5
  iapply Hk
  isplitl [H1]
  · iexists f1; isplitr; · ipureintro; rfl
    iexact H1
  isplitl [H2]
  · iexists f2; isplitr; · ipureintro; rfl
    iexact H2
  isplitl [H3]
  · iexists _; isplitr; swap; · iexact H3
    ipureintro
    refine (read_store _ _ z3 _ _ _).trans ?_
    rw [read_load _ _ z2, read_load _ _ z2]
  isplitl [H4]
  · iexists f4; isplitr; · ipureintro; exact hf4
    iexact H4
  iexists _; isplitr; swap; · iexact H5
  ipureintro
  refine (read_store _ _ z2 _ _ _).trans ?_
  dsimp only [add0]
  rw [read_load _ _ z2, read_load _ _ z2, read_load _ _ z2]; rfl

/-- The body at the last point. -/
theorem run_final (hf : ¬ first i) (hl : later i) (he : final i)
    (Q : PUnit → sProp 𝕄) :
    iprop(owns (c : Thread nD τ) a1 fullShare x ∗ owns (c : Thread nD τ) a2 fullShare w ∗ owns (c : Thread nD τ) a3 fullShare d3
        ∗ owns (c : Thread nD τ) a4 fullShare d4 ∗ owns (c : Thread nD τ) a5 fullShare d5
        ∗ (iprop(owns (c : Thread nD τ) a1 fullShare x ∗ owns (c : Thread nD τ) a2 fullShare w ∗ owns (c : Thread nD τ) a3 fullShare (k0_pay6 x w)
            ∗ owns (c : Thread nD τ) a4 fullShare (k0_pay4 (add0 x w d5)) ∗ owns (c : Thread nD τ) a5 fullShare (add0 x w d5)) -∗ Q ⟨⟩))
      ⊢ wp frame (wpE (defs₀ (F := F)) Variants.none c none) Set.univ (cc0__gate_block i a1 h1 a2 h2 a3 h3 a4 h4 a5 h5) Q := by
  simp only [cc0__gate_block_eq_skeleton]; unfold cc0__gate_block_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  sl_exec
  sl_step
  subst hf1; subst hf2; subst hf5
  iapply Hk
  isplitl [H1]
  · iexists f1; isplitr; · ipureintro; rfl
    iexact H1
  isplitl [H2]
  · iexists f2; isplitr; · ipureintro; rfl
    iexact H2
  isplitl [H3]
  · iexists _; isplitr; swap; · iexact H3
    ipureintro
    refine (read_store _ _ z3 _ _ _).trans ?_
    rw [read_load _ _ z2, read_load _ _ z2]
  isplitl [H4]
  · iexists _; isplitr; swap; · iexact H4
    ipureintro
    refine (read_store _ _ z2 _ _ _).trans ?_
    sl_unfold_words
    refine congrArg k0_pay4 ((View.readCov_unit_zero _ z2 _ _).trans ?_)
    dsimp only [add0]
    rw [read_load _ _ z2, read_load _ _ z2, read_load _ _ z2]
  iexists _; isplitr; swap; · iexact H5
  ipureintro
  refine (read_store _ _ z2 _ _ _).trans ?_
  dsimp only [add0]
  rw [read_load _ _ z2, read_load _ _ z2, read_load _ _ z2]; rfl

end Run

end Cert.Proof.Gate

end
-- ==== Proof.Pay.lean ====
/- The gate block's payloads, element by element: the scores, the two counts' masks, what a point adds to the accumulator and
   the loss of the last accumulator. -/
module

public import proofs.«01_k».proof.Proof.Soft
public import proofs.«01_k».proof.Proof.Gate
public import Idealize.ShloMosaic.Lib.Pointwise

@[expose] public section

set_option maxRecDepth 16384

noncomputable section

namespace Cert.Proof.Pay

open Idealize.ShloMosaic Idealize.ShloMosaic.TcCoe
open Cert.KernelIdeal Cert.KernelIdeal.Gen
open Cert.Proof.Gate Cert.Proof.Soft

/-- The scores of row `r` of a block. -/
def sc (x : FVec Ideal S1024x2048 .f32) (w : FVec Ideal S8x2048 .f32) (r : Fin 1024) : Fin 8 → EReal :=
  soft fun e => ∑ k : Fin 2048, x (ix2 r k) * w (ix2 e k)

variable (x : FVec Ideal S1024x2048 .f32) (w : FVec Ideal S8x2048 .f32)

theorem pay5 (e : Fin 8) (r : Fin 1024) : k0_pay5 (F := Ideal) x w (ix2 e r) = sc x w r e := by
  pointwise [k0_pay5]
  unfold sc soft big
  simp only [c_ninf, mul_comm]

theorem pay6 (e : Fin 8) (r : Fin 1024) : k0_pay6 (F := Ideal) x w (ix3 0 e r) = sc x w r e := by
  rw [← pay5]
  pointwise [k0_pay6, k0_pay5]

theorem pay7 (e : Fin 8) (r : Fin 1024) : k0_pay7 (F := Ideal) x w (ix2 e r) = hit (sc x w r) e := by
  have h := fun e => pay5 x w e r
  pointwise [k0_pay7]
  simp only [h, c_ninf, c_neg1]
  unfold hit i2 rest i1 least big
  rfl

theorem pay1_lo (p : FVec Ideal S8x1024 .f32) (q : IVec S8x1024 1) (e : Fin 8) (r : Fin 1024) :
    k0_pay1 (F := Ideal) p q one (ix2 ⟨e.val, by omega⟩ r) = p (ix2 e r) := by
  pointwise [k0_pay1]

theorem pay1_hi (p : FVec Ideal S8x1024 .f32) (q : IVec S8x1024 1) (e : Fin 8) (r : Fin 1024) :
    k0_pay1 (F := Ideal) p q one (ix2 ⟨8 + e.val, by omega⟩ r) = Scalar.select (q (ix2 e r)) 1 0 := by
  pointwise [k0_pay1]

theorem set_at (i : Fin 16) (r : Fin 1024) : set0 (F := Ideal) x w (ix2 i r) = k0_pay1 (F := Ideal) (k0_pay5 (F := Ideal) x w) (k0_pay7 (F := Ideal) x w) one (ix2 i r) := by
  unfold set0
  pointwise [k0_pay2]

theorem add_at (a : FVec Ideal S16x1024 .f32) (i : Fin 16) (r : Fin 1024) :
    add0 (F := Ideal) x w a (ix2 i r) = a (ix2 i r) + k0_pay1 (F := Ideal) (k0_pay5 (F := Ideal) x w) (k0_pay7 (F := Ideal) x w) one (ix2 i r) := by
  unfold add0
  pointwise [k0_pay3]

theorem pay4 (a : FVec Ideal S16x1024 .f32) (e : Fin 8) (r : Fin 128) : k0_pay4 (F := Ideal) a (ix2 e r)
    = (∑ k : Fin 8, Ideal.div (∑ l : Fin 1024, a (ix2 ⟨k.val, by omega⟩ l)) ((32768 : ℝ) : EReal)
        * ((∑ l : Fin 1024, a (ix2 ⟨8 + k.val, by omega⟩ l)) * ((1 / 8192 : ℝ) : EReal))) * Ideal.ofBits .f32 0x3A83126F#32 := by
  pointwise [k0_pay4]
  simp only [c_32768, c_8192th]

end Cert.Proof.Pay

end
-- ==== Proof.Region.lean ====
/- The gating region of @main: what its two result arrays hold after the grid, and the region as a segment entered with
   the launch handshake's debts outstanding. -/
module

public import proofs.«01_k».proof.Proof.Gate
public import Idealize.ShloMosaic.Lib.Pipeline.FrameBody
public import Idealize.ShloMosaic.Lib.Pipeline.RegionArrays

@[expose] public section

noncomputable section

namespace Cert.Proof.Region

open Cert.KernelIdeal Cert.KernelIdeal.Gen
open Cert.Proof.Common Cert.Proof.Gate

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F]

local notation "𝕄" => MT nD τ sig (HIx 1) (Elt F) ℕ UU ℕ

/-- Point `n` of the grid. -/
def pt (n : ℕ) : Fin cfg0.N := ⟨n % 32, by rw [show cfg0.N = 32 from N_0]; exact Nat.mod_lt _ (by decide)⟩
theorem pt_val (t : Fin cfg0.N) : pt t.val = t :=
  Fin.ext (Nat.mod_eq_of_lt (lt_of_lt_of_eq t.isLt N_0))

variable (V : Dev nD → Valuation τ sig (Elt F))

/-- The blocks of the activations and of the weights the pipeline stages at a point. -/
def xb (c : Dev nD) (t : Fin cfg0.N) : Vec F S1024x2048 .f32 := ((cfg0.win 0).blk t).view.read (Elt F) (V c (Proc.devRef .tc main_v0))
def wb (c : Dev nD) (t : Fin cfg0.N) : Vec F S8x2048 .f32 := ((cfg0.win 1).blk t).view.read (Elt F) (V c (Proc.devRef .tc main_arg1))

/-- The accumulator after the first `n` points. -/
def acc (c : Dev nD) : ℕ → Vec F S16x1024 .f32
  | 0 => fun _ => one
  | n + 1 => if n = 0 then set0 (xb V c (pt n)) (wb V c (pt n)) else add0 (xb V c (pt n)) (wb V c (pt n)) (acc c n)

theorem acc_one (c : Dev nD) (t : Fin cfg0.N) (h : t.val = 0) : acc V c (t.val + 1) = set0 (xb V c t) (wb V c t) := by
  rw [acc, if_pos h, pt_val]
theorem acc_succ (c : Dev nD) (t : Fin cfg0.N) (h : t.val ≠ 0) : acc V c (t.val + 1) = add0 (xb V c t) (wb V c t) (acc V c t.val) := by
  rw [acc, if_neg h, pt_val]

abbrev scM : Memref sig .tc .vmem S16x1024 .f32 := Memref.whole cc0_scratch0

/-- The invariant before point `n`: the accumulator at the first `n` points' sum, at anything before the first. -/
def inv (c : Dev nD) (n : ℕ) : sProp 𝕄 :=
  iprop(∃ d, ⌜n ≠ 0 → d = acc V c n⌝ ∗ owns (c : Thread nD τ) scM fullShare d)

/-- The waits the launch handshake lets the TensorCore have recorded before its call. -/
def low (c : Dev nD) : Set (SemLoc sig × HIx 1) := {p | (K (F := F)).lev ((c : Thread nD τ), p.1) p.2 ≤ 0}

def dat (c : Dev nD) : Dat τ (Elt F) (HIx 1) ℕ UU ℕ cfg0 c where
  A w := V c (Proc.devRef .tc (Pipeline.arrRef spec0 w))
  after w t := match w with
    | ⟨0, _⟩ => xb V c t
    | ⟨1, _⟩ => wb V c t
    | ⟨2, _⟩ => k0_pay6 (xb V c t) (wb V c t)
    | ⟨3, _⟩ => k0_pay4 (acc V c (t.val + 1))
  Φ t := inv V c t.val
  q _ := fullShare
  owed _ := (K (F := F)).Otc c 0
  recorded _ := low (F := F) c

theorem before_0 (c : Dev nD) (t : Fin cfg0.N) (d) : (dat V c).before 0 t d = xb V c t :=
  (dat V c).before_in_eq_fetched 0 rfl (fun _ => rfl) (fun _ _ _ => rfl) (fun _ => rfl) t d
theorem before_1 (c : Dev nD) (t : Fin cfg0.N) (d) : (dat V c).before 1 t d = wb V c t :=
  (dat V c).before_in_eq_fetched 1 rfl (fun _ => rfl) (fun _ _ _ => rfl) (fun _ => rfl) t d

theorem idle_3 (t : Fin cfg0.N) (h : ¬ final (grid0.coords t)) : cfg0.idle 3 (grid0.coords t) = true := by
  show (!(k0_cond3 (grid0.coords t) == 1#1)) = true
  simpa using h
theorem live_3 (t : Fin cfg0.N) (h : final (grid0.coords t)) : cfg0.idle 3 (grid0.coords t) = false := by
  show (!(k0_cond3 (grid0.coords t) == 1#1)) = false
  simpa using h
theorem unflushed_3 (t : Fin cfg0.N) (h : ¬ final (grid0.coords t)) : (cfg0.win 3).flush t = false := by
  rw [Bool.eq_false_iff]; intro hf
  have h1 := (flush0_3 t).mp hf
  have h2 : t.val < 32 := lt_of_lt_of_eq t.isLt N_0
  exact h ((final_iff t).mpr (by omega))

/-- The body table's row at the point is the body as `bodyAt0` spells it. -/
theorem row (t : Fin cfg0.N) : defs₀ (F := F) .tc cfg0.body (cfg0.bodyArgs t (cfg0.slots t)) = bodyAt0 t := by
  rfl

theorem body_obligation (c : Dev nD) : BodyObligation (dat V c) (defs₀ (F := F)) Variants.none none Set.univ := fun t => by
  rw [bigSep_W0, bigSep_W0, row]
  rw [show (dat V c).Φ t.castSucc = inv V c t.val from rfl, show (dat V c).Φ t.succ = inv V c (t.val + 1) from rfl,
    show (dat V c).owesAt none t.succ = (dat V c).owesAt none t.castSucc from rfl]
  unfold inv bodyAt0
  by_cases h0 : t.val = 0
  · have hf := (first_iff t).mpr h0
    have hl : ¬ later (grid0.coords t) := fun h => (later_iff t).mp h h0
    have he : ¬ final (grid0.coords t) := fun h => absurd ((final_iff t).mp h) (by omega)
    rw [show (cfg0.idle 3 (cfg0.grid.coords t)) = true from idle_3 t he, unflushed_3 t he]
    iintro ⟨⟨%ds, %hds, HS⟩, HO, ⟨%d0, H0⟩, ⟨%d1, H1⟩, ⟨%d2, H2⟩, ⟨%d3, H3⟩⟩
    rw [before_0, before_1]
    iapply (run_first c (grid0.coords t) _ _ _ _ _ _ _ _ scM _ (xb V c t) (wb V c t) _ _ _ hf hl he)
    isplitl [H0]; · iexact H0
    isplitl [H1]; · iexact H1
    isplitl [H2]; · iexact H2
    isplitl [H3]; · iexact H3
    isplitl [HS]; · iexact HS
    iintro ⟨H0, H1, H2, H3, HS⟩
    isplitl [HS]
    · iexists _; isplitr; swap; · iexact HS
      ipureintro; intro _; exact (acc_one V c t h0).symm
    isplitl [HO]; · iexact HO
    isplitl [H0]; · iexact H0
    isplitl [H1]; · iexact H1
    isplitl [H2]; · iexact H2
    iexists _; iexact H3
  have hf : ¬ first (grid0.coords t) := fun h => h0 ((first_iff t).mp h)
  have hl := (later_iff t).mpr h0
  by_cases he : final (grid0.coords t)
  · rw [show (cfg0.idle 3 (cfg0.grid.coords t)) = false from live_3 t he]
    iintro ⟨⟨%ds, %hds, HS⟩, HO, ⟨%d0, H0⟩, ⟨%d1, H1⟩, ⟨%d2, H2⟩, ⟨%d3, H3⟩⟩
    rw [before_0, before_1]
    obtain rfl := hds h0
    iapply (run_final c (grid0.coords t) _ _ _ _ _ _ _ _ scM _ (xb V c t) (wb V c t) _ _ _ hf hl he)
    isplitl [H0]; · iexact H0
    isplitl [H1]; · iexact H1
    isplitl [H2]; · iexact H2
    isplitl [H3]; · iexact H3
    isplitl [HS]; · iexact HS
    iintro ⟨H0, H1, H2, H3, HS⟩
    isplitl [HS]
    · iexists _; isplitr; swap; · iexact HS
      ipureintro; intro _; exact (acc_succ V c t h0).symm
    isplitl [HO]; · iexact HO
    isplitl [H0]; · iexact H0
    isplitl [H1]; · iexact H1
    isplitl [H2]; · iexact H2
    rw [← acc_succ V c t h0]
    iexact H3
  · rw [show (cfg0.idle 3 (cfg0.grid.coords t)) = true from idle_3 t he, unflushed_3 t he]
    iintro ⟨⟨%ds, %hds, HS⟩, HO, ⟨%d0, H0⟩, ⟨%d1, H1⟩, ⟨%d2, H2⟩, ⟨%d3, H3⟩⟩
    rw [before_0, before_1]
    obtain rfl := hds h0
    iapply (run_later c (grid0.coords t) _ _ _ _ _ _ _ _ scM _ (xb V c t) (wb V c t) _ _ _ hf hl he)
    isplitl [H0]; · iexact H0
    isplitl [H1]; · iexact H1
    isplitl [H2]; · iexact H2
    isplitl [H3]; · iexact H3
    isplitl [HS]; · iexact HS
    iintro ⟨H0, H1, H2, H3, HS⟩
    isplitl [HS]
    · iexists _; isplitr; swap; · iexact HS
      ipureintro; intro _; exact (acc_succ V c t h0).symm
    isplitl [HO]; · iexact HO
    isplitl [H0]; · iexact H0
    isplitl [H1]; · iexact H1
    isplitl [H2]; · iexact H2
    iexists _; iexact H3

/-! ## The region as a segment -/

abbrev adm (p : Fin 1) : (pcfgs (F := F) p).Adm := (cfgs p).toPCfg_adm

abbrev pdats (p : Fin 1) (c : Dev nD) : Dat τ (Elt F) (HIx 1) ℕ UU ℕ (Pipeline.pin (pcfgs (F := F)) adm p) c :=
  match p with
  | ⟨0, _⟩ => dat V c

/-- The buffers after the region: the two results at what the grid leaves in them. -/
def out (c : Dev nD) : Valuation τ sig (Elt F) :=
  Function.update (Function.update (V c) (Proc.devRef .tc main_v1_0) ((dat V c).arrAt 2 cfg0.N)) (Proc.devRef .tc main_v1_1) ((dat V c).arrAt 3 cfg0.N)

theorem kit : Pipeline.PLaunchFacts (nD := nD) (τ := τ) (pcfgs (F := F)) 0 := launch0.toP

theorem out_arr (c : Dev nD) (w : Fin 4) : (dat V c).arrAt w cfg0.N = out V c (Proc.devRef .tc (Pipeline.arrRef spec0 w)) := by
  unfold out
  match w with
  | 0 =>
    rw [Function.update_of_ne (by decide), Function.update_of_ne (by decide)]
    exact (dat V c).arrAt_in 0 rfl _
  | 1 =>
    rw [Function.update_of_ne (by decide), Function.update_of_ne (by decide)]
    exact (dat V c).arrAt_in 1 rfl _
  | 2 =>
    rw [Function.update_of_ne (by decide)]
    exact (Function.update_self (Proc.devRef .tc main_v1_0 : DevRef τ sig) ((dat V c).arrAt 2 cfg0.N) (V c)).symm
  | 3 => exact (Function.update_self (Proc.devRef .tc main_v1_1 : DevRef τ sig) ((dat V c).arrAt 3 cfg0.N)
      (Function.update (V c) (Proc.devRef .tc main_v1_0) ((dat V c).arrAt 2 cfg0.N))).symm

theorem lev_waitPairs (c : Dev nD) (q) (h : q ∈ cfg0.waitPairs (none : HIx 1)) : q ∈ low (F := F) c := by
  obtain ⟨w, s, rfl⟩ := h
  exact Nat.le_refl 0

abbrev thread (c : Dev nD) (W : Valuation τ sig (Elt F)) : sProp 𝕄 :=
  iprop(StableHlo.held (c.tc : Thread nD τ) (Pipeline.arrRefs spec0) W
    ∗ ∃ Wd, ⌜(K (F := F)).WBelow (c.tc : Thread nD τ) Wd 0⌝ ∗ owes (c : Thread nD τ) ((K (F := F)).Otc c 0) Wd)

set_option backward.isDefEq.respectTransparency.types false in
def reg : Pipeline.RegionSeg (pcfgs (F := F)) adm (pdats V) none defs₀ 𝒱₀ (K (F := F)).L (K (F := F)).lev 0 where
  win := (kit (F := F)).win.to₀
  block_pos := (kit (F := F)).block_pos
  stage_whole := (kit (F := F)).stage_whole
  K := PEmpty
  osem k := k.elim
  ho := Pipeline.OwnSemFacts.none _
  hbody c := (body_obligation V c).loose
  hwaits c := Pipeline.cellsWaits_of_cut (Pipeline.pin (pcfgs (F := F)) adm) (pdats V) none 0 c 0 ((K (F := F)).Otc c 0) (fun _ => rfl)
    (fun _ _ => Finset.mem_univ _) (fun _ _ => le_rfl)
    (fun g i h => ⟨Finset.mem_univ _, lt_of_lt_of_le (Nat.succ_pos _) ((K (F := F)).lev_of_Otc_pos h)⟩)
  pre c := thread c (V c)
  post c := thread c (out V c)
  X _ := BI.emp
  Y _ := BI.emp
  Z _ := BI.emp
  hentry c := by
    rw [Pipeline.ownSems0_none, Pipeline.prefHeld_of_none _ rfl]
    have hE := Pipeline.arrays_held (pcfgs (F := F)) adm (pdats V) 0 kit c ((dat V c).share_full fun _ => rfl) (dat V c).A (V c) fun _ => rfl
    iintro ⟨⟨Ha, %W, %hW, HO⟩, -, -⟩
    ihave Ha := (Entails.of_eq hE.symm) $$ Ha
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitr <;> iempintro
  hin c := by
    show _ ⊢ inv V c 0
    rw [show Pipeline.scopedRest (Pipeline.pin (pcfgs (F := F)) adm 0).spec c = _ from scopedRest0_eq c]
    iintro ⟨-, -, %f, Hr⟩
    unfold inv
    iexists f; isplitr; · ipureintro; intro h; exact absurd rfl h
    rw [owns_whole_eq]
    iexists f; isplitr; swap; · iexact Hr
    ipureintro; rfl
  hout c := by
    show inv V c 32 ⊢ _
    rw [Pipeline.ownSems0_none, show Pipeline.scopedRest (Pipeline.pin (pcfgs (F := F)) adm 0).spec c = _ from scopedRest0_eq c]
    unfold inv
    simp only [owns_whole_eq]
    iintro ⟨%d, -, %f, -, Hr⟩
    isplitr; · iempintro
    isplitr; · iempintro
    iexists f; iexact Hr
  hexit c := by
    have hE := Pipeline.arrays_held (pcfgs (F := F)) adm (pdats V) 0 kit c ((dat V c).share_full fun _ => rfl) ((dat V c).arrAt · cfg0.N) (out V c) (out_arr V c)
    iintro ⟨Ha, HO, -, -⟩
    ihave Ha := (Entails.of_eq hE) $$ Ha
    imodintro
    isplitl [Ha]; · iexact Ha
    unfold Pipeline.Dat.owesAt Pipeline.owesWithin
    icases HO with ⟨%W, %hW, HO⟩; iexists W
    isplitr; swap; · iexact HO
    ipureintro; intro p hp
    rcases hW hp with h | h
    · exact h
    · exact lev_waitPairs c p h

end Cert.Proof.Region

end
-- ==== Proof.GateVal.lean ====
/- What the gate region leaves: the scores of every token, and in the accumulator's last sum the scores and the counts summed
   over the blocks. -/
module

public import proofs.«01_k».proof.Proof.Pay
public import proofs.«01_k».proof.Proof.Region
public import Idealize.ShloMosaic.Lib.Pipeline.ValueKit

@[expose] public section

set_option maxRecDepth 16384

noncomputable section

namespace Cert.Proof.GateVal

open Idealize.ShloMosaic Idealize.ShloMosaic.TcCoe
open Idealize.ShloMosaic.Pipeline (Dat)
open Cert.KernelIdeal Cert.KernelIdeal.Gen
open Cert.Proof.Gate Cert.Proof.Soft Cert.Proof.Pay Cert.Proof.Region

/-- Token `r` of block `b`. -/
def tok (b : Fin 32) (r : Fin 1024) : Fin 32768 := ⟨b.val * 1024 + r.val, by omega⟩

/-- A token's scores. -/
def sco (H : FVec Ideal S32768x2048 .f32) (W : FVec Ideal S8x2048 .f32) (t : Fin 32768) : Fin 8 → EReal :=
  soft fun e => ∑ k : Fin 2048, H (ix2 t k) * W (ix2 e k)

theorem idx : ∀ t : Fin cfg0.N, win0_0.index t = ![t.val, 0] ∧ win0_1.index t = ![0, 0] ∧ win0_2.index t = ![t.val, 0, 0] ∧ win0_3.index t = ![0, 0] :=
  (by decide +kernel : ∀ t : Fin grid0.N, _)

variable (V : Dev nD → Valuation τ sig (Elt Ideal)) (c : Dev nD)

/-- The activations and the weights the region reads. -/
abbrev HH : FVec Ideal S32768x2048 .f32 := V c (Proc.devRef .tc main_v0)
abbrev WW : FVec Ideal S8x2048 .f32 := V c (Proc.devRef .tc main_arg1)

theorem xb_at (t : Fin cfg0.N) (b : Fin 32) (hb : b.val = t.val) (r : Fin 1024) (k : Fin 2048) :
    xb V c t (ix2 r k) = HH V c (ix2 (tok b r) k) := by
  unfold tok
  blk_ext [xb, idx t]

theorem wb_at (t : Fin cfg0.N) (e : Fin 8) (k : Fin 2048) : wb V c t (ix2 e k) = WW V c (ix2 e k) := by
  blk_ext [wb, idx t]

theorem sc_at (t : Fin cfg0.N) (b : Fin 32) (hb : b.val = t.val) (r : Fin 1024) :
    Pay.sc (xb V c t) (wb V c t) r = sco (HH V c) (WW V c) (tok b r) := by
  unfold Pay.sc sco
  simp only [xb_at V c t b hb, wb_at]

/-- The scores' array. -/
theorem scores : (dat V c).arrAt 2 cfg0.N = (fun i => sco (HH V c) (WW V c) (tok (i 0) (i 2)) (i 1) : FVec Ideal S32x8x1024 .f32) := by
  refine (dat V c).arrAt_eq_of_covers 2 _ (by decide +kernel) fun t _ y => ?_
  blk_simp
  rw [show (dat V c).after 2 t = k0_pay6 (F := Ideal) (xb V c t) (wb V c t) from rfl]
  obtain ⟨b, hb⟩ : ∃ b : Fin 32, b.val = t.val := ⟨⟨t.val, lt_of_lt_of_eq t.isLt N_0⟩, rfl⟩
  have hy : y = ix3 0 (y 1) (y 2) := by blk_ext []
  have h0 : (win0_2.blk t).view.emb y = ix3 b (y 1) (y 2) := by blk_ext [idx t]
  rw [h0]
  refine Eq.trans (congrArg _ hy) ((pay6 _ _ (y 1) (y 2)).trans (congrFun (sc_at V c t b hb (y 2)) (y 1)))

/-- What point `n` adds. -/
def part (n : ℕ) (i : Fin 16) (l : Fin 1024) : EReal :=
  k0_pay1 (F := Ideal) (k0_pay5 (F := Ideal) (xb V c (pt n)) (wb V c (pt n))) (k0_pay7 (F := Ideal) (xb V c (pt n)) (wb V c (pt n))) one (ix2 i l)

theorem acc_sum (i : Fin 16) (l : Fin 1024) : ∀ n : ℕ, acc V c (n + 1) (ix2 i l) = ∑ b ∈ Finset.range (n + 1), part V c b i l
  | 0 => by
    rw [Finset.sum_range_one]
    exact set_at _ _ i l
  | n + 1 => by
    rw [Finset.sum_range_succ, ← acc_sum i l n, acc, if_neg (Nat.succ_ne_zero n)]
    exact add_at _ _ _ i l

theorem acc_last (i : Fin 16) (l : Fin 1024) : acc V c 32 (ix2 i l) = ∑ b : Fin 32, part V c b.val i l := by
  rw [acc_sum, Finset.sum_range]

theorem pt_fin (b : Fin 32) : b.val = (pt b.val).val := (Nat.mod_eq_of_lt b.isLt).symm

theorem part_lo (b : Fin 32) (e : Fin 8) (l : Fin 1024) : part V c b.val ⟨e.val, by omega⟩ l = sco (HH V c) (WW V c) (tok b l) e := by
  unfold part
  rw [pay1_lo, pay5, sc_at V c _ b (pt_fin b)]

theorem part_hi (b : Fin 32) (e : Fin 8) (l : Fin 1024) : part V c b.val ⟨8 + e.val, by omega⟩ l = count (sco (HH V c) (WW V c) (tok b l)) e := by
  unfold part
  rw [pay1_hi, pay7, sc_at V c _ b (pt_fin b)]
  rfl

/-- A sum over the rows and the blocks is one over the tokens. -/
theorem sum_tok (f : Fin 32768 → EReal) : ∑ l : Fin 1024, ∑ b : Fin 32, f (tok b l) = ∑ t : Fin 32768, f t := by
  rw [Finset.sum_comm]
  exact (Fin.sum_univ_tiles 32 1024 rfl f).symm

/-- The loss as the gate block computes it from the scores. -/
def loss (s : Fin 32768 → Fin 8 → EReal) : EReal :=
  (∑ k : Fin 8, Ideal.div (∑ t, s t k) ((32768 : ℝ) : EReal) * ((∑ t, count (s t) k) * ((1 / 8192 : ℝ) : EReal))) * Ideal.ofBits .f32 0x3A83126F#32

theorem last (e : Fin 8) (r : Fin 128) : k0_pay4 (F := Ideal) (acc V c 32) (ix2 e r) = loss (sco (HH V c) (WW V c)) := by
  rw [pay4]
  unfold loss
  simp only [acc_last, part_lo, part_hi]
  simp only [← sum_tok]

/-- The loss's array. -/
theorem losses : (dat V c).arrAt 3 cfg0.N = (fun _ => loss (sco (HH V c) (WW V c)) : FVec Ideal S8x128 .f32) := by
  refine (dat V c).arrAt_eq_of_covers 3 _ (by decide +kernel) fun t hf y => ?_
  blk_simp
  have ht : t.val + 1 = 32 := by
    have h1 := (flush0_3 t).mp hf
    have h2 : t.val < 32 := lt_of_lt_of_eq t.isLt N_0
    omega
  rw [show (dat V c).after 3 t = k0_pay4 (F := Ideal) (acc V c (t.val + 1)) from rfl, ht]
  have hy : y = ix2 (y 0) (y 1) := by blk_ext []
  exact (congrArg _ hy).trans (last V c (y 0) (y 1))

end Cert.Proof.GateVal

end
-- ==== Proof.RefVal.lean ====
/- The reference's three results over the scores: the scores' array, the sorted places, the weights and the loss. -/
module

public import proofs.«01_k».proof.Proof.GateVal
public import proofs.«01_k».proof.Proof.Gen.ReferenceIdeal.Run

@[expose] public section

set_option maxRecDepth 16384

noncomputable section

namespace Cert.Proof.RefVal

open Idealize.ShloMosaic Idealize.ShloMosaic.TcCoe
open Cert.ReferenceIdeal Cert.ReferenceIdeal.Gen
open Cert.Proof.Soft Cert.Proof.Rank
open Cert.Proof.GateVal (sco)

/-- The logits' array and the scores'. -/
abbrev logits (H : FVec Ideal S32768x2048 .f32) (W : FVec Ideal S8x2048 .f32) : FVec Ideal S32768x8 .f32 :=
  Host.dotGeneral dot_S32768x2048_S2048x8_S32768x8_1_0_0_1_n_n none H (transpose S2048x8 [1, 0] W transposes_S8x2048_S2048x8_1_0)

abbrev expo (L : FVec Ideal S32768x8 .f32) : FVec Ideal S32768x8 .f32 :=
  Host.exp (subf L (broadcastInDim S32768x8 ![0, 1] bcast_S32768x1_S32768x8_0_1 (broadcastInDim S32768x1 ![0] bcast_S32768_S32768x1_0
    (maximumf (broadcastInDim S32768 ![] bcast_S_S32768 (constant S_ .f32 0xFF800000#32))
      (Host.reduce FloatOps.maximumf L (constant S_ .f32 0xFF800000#32) reducesTo_S32768x8_S32768_d1 h_S_)))))

abbrev norm (E : FVec Ideal S32768x8 .f32) : FVec Ideal S32768x8 .f32 :=
  Host.divf E (broadcastInDim S32768x8 ![0, 1] bcast_S32768x1_S32768x8_0_1 (broadcastInDim S32768x1 ![0] bcast_S32768_S32768x1_0
    (Host.reduceAdd E (constant S_ .f32 0x00000000#32) reducesTo_S32768x8_S32768_d1 h_S_)))

variable (H : FVec Ideal S32768x2048 .f32) (W : FVec Ideal S8x2048 .f32)

theorem logits_at (t : Fin 32768) (e : Fin 8) : logits H W (ix2 t e) = ∑ k : Fin 2048, H (ix2 t k) * W (ix2 e k) := by
  pointwise [logits]

theorem expo_at (L : FVec Ideal S32768x8 .f32) (t : Fin 32768) (e : Fin 8) :
    expo L (ix2 t e) = Ideal.exp (L (ix2 t e) - big fun k => L (ix2 t k)) := by
  pointwise [expo]
  unfold big
  simp only [c_ninf, max_bot_left]

theorem norm_at (E : FVec Ideal S32768x8 .f32) (t : Fin 32768) (e : Fin 8) :
    norm E (ix2 t e) = Ideal.div (E (ix2 t e)) (∑ k : Fin 8, E (ix2 t k)) := by
  pointwise [norm]

theorem scores_at (t : Fin 32768) (e : Fin 8) : norm (expo (logits H W)) (ix2 t e) = sco H W t e := by
  rw [norm_at]
  simp only [expo_at, logits_at]
  rfl

/-! ## The sorted places -/

abbrev tops (S : FVec Ideal S32768x8 .f32) : (S32768x2.Idx → Ideal .f32) × IVec S32768x2 32 :=
  Host.topK S32768x2 1 (FloatOps.cmpfTotal .gt) S sliceFits_S32768x8_S32768x2

theorem gt_eq (x y : EReal) : (FloatOps.cmpfTotal (F := Ideal) (φ := .f32) .gt x y == 1#1) = decide (y < x) := by
  show (BitVec.ofBool (decide (y < x)) == 1#1) = _
  cases decide (y < x) <;> rfl

theorem along_at (t : Fin 32768) (j k : Fin 8) : Shape.Idx.along (s := S32768x8) (ix2 t j) 1 k = ix2 t k := by
  funext a; fin_cases a <;> rfl

theorem place_at (S : FVec Ideal S32768x8 .f32) (t : Fin 32768) (j : Fin 8) :
    sortedFrom (fun k k' => FloatOps.cmpfTotal (F := Ideal) (φ := .f32) .gt (S (Shape.Idx.along (s := S32768x8) (ix2 t j) 1 k)) (S (Shape.Idx.along (s := S32768x8) (ix2 t j) 1 k')) == 1#1) j
      = sortedFrom (gt fun e => S (ix2 t e)) j := by
  refine congrArg (fun f => sortedFrom f j) (funext fun k => funext fun k' => ?_)
  exact (congrArg₂ (fun a b => FloatOps.cmpfTotal (F := Ideal) (φ := .f32) .gt (S a) (S b) == 1#1) (along_at t j k) (along_at t j k')).trans (gt_eq _ _)

theorem tops_val (S : FVec Ideal S32768x8 .f32) (t : Fin 32768) (j : Fin 2) :
    (tops S).1 (ix2 t j) = S (ix2 t (top (fun e => S (ix2 t e)) j)) := by
  pointwise [tops, Host.topK]
  exact (congrArg (fun q => S (Shape.Idx.along (s := S32768x8) (ix2 t (j.castLE (by decide))) 1 q)) (place_at S t (j.castLE (by decide)))).trans
    (congrArg S (along_at t _ _))

theorem tops_idx (S : FVec Ideal S32768x8 .f32) (t : Fin 32768) (j : Fin 2) :
    (tops S).2 (ix2 t j) = BitVec.ofNat 32 (top (fun e => S (ix2 t e)) j).val := by
  pointwise [tops, Host.topK]
  exact congrArg (fun q : Fin 8 => BitVec.ofNat 32 q.val) (place_at S t (j.castLE (by decide)))

/-! ## The weights and the loss -/

abbrev weights (V : FVec Ideal S32768x2 .f32) : FVec Ideal S32768x2 .f32 :=
  Host.divf V (broadcastInDim S32768x2 ![0, 1] bcast_S32768x1_S32768x2_0_1 (addf (broadcastInDim S32768x1 ![0] bcast_S32768_S32768x1_0
    (Host.reduceAdd V (constant S_ .f32 0x00000000#32) reducesTo_S32768x2_S32768_d1 h_S_)) (broadcastInDim S32768x1 ![] bcast_S_S32768x1 (constant S_ .f32 0x1E3CE508#32))))

theorem weights_at (V : FVec Ideal S32768x2 .f32) (t : Fin 32768) (j : Fin 2) :
    weights V (ix2 t j) = Ideal.div (V (ix2 t j)) (∑ k : Fin 2, V (ix2 t k) + Ideal.ofBits .f32 0x1E3CE508#32) := by
  pointwise [weights]

abbrev hots (I : IVec S32768x2 32) : FVec Ideal S65536x8 .f32 :=
  uitofp .f32 (cmpi .eq (broadcastInDim S65536x8 ![0, 1] bcast_S65536x1_S65536x8_0_1 (broadcastInDim S65536x1 ![0] bcast_S65536_S65536x1_0
    (shapeCast _ (shapeCast _ I shapeCasts_S32768x2_S4x16384) shapeCasts_S4x16384_S65536))) (broadcastInDim S65536x8 ![0, 1] bcast_S1x8_S65536x8_0_1 (iotaInDim S1x8 32 1)))

theorem hots_at (I : IVec S32768x2 32) (t : Fin 32768) (j : Fin 2) (e : Fin 8) (h : t.val * 2 + j.val < 65536) :
    hots I (ix2 ⟨t.val * 2 + j.val, h⟩ e) = (((IntOp.cmpi .eq (I (ix2 t j)) (BitVec.ofNat 32 e.val)).toNat : ℝ) : EReal) := by
  pointwise [hots]
  rfl

abbrev lossOf (S : FVec Ideal S32768x8 .f32) (C : FVec Ideal S65536x8 .f32) : FVec Ideal S_ .f32 :=
  mulf (Host.reduceAdd (mulf (Host.divf (Host.reduceAdd S (constant S_ .f32 0x00000000#32) reducesTo_S32768x8_S8_d0 h_S_) (broadcastInDim S8 ![] bcast_S_S8 (constant S_ .f32 0x47000000#32)))
    (mulf (Host.divf (Host.reduceAdd C (constant S_ .f32 0x00000000#32) reducesTo_S65536x8_S8_d0 h_S_) (broadcastInDim S8 ![] bcast_S_S8 (constant S_ .f32 0x47800000#32)))
      (broadcastInDim S8 ![] bcast_S_S8 (constant S_ .f32 0x41000000#32)))) (constant S_ .f32 0x00000000#32) reducesTo_S8_S_d0 h_S_) (constant S_ .f32 0x3A83126F#32)

theorem lossOf_at (S : FVec Ideal S32768x8 .f32) (C : FVec Ideal S65536x8 .f32) (i : S_.Idx) : lossOf S C i
    = (∑ k : Fin 8, Ideal.div (∑ t : Fin 32768, S (ix2 t k)) ((32768 : ℝ) : EReal)
        * (Ideal.div (∑ r : Fin 65536, C (ix2 r k)) ((65536 : ℝ) : EReal) * ((8 : ℝ) : EReal))) * Ideal.ofBits .f32 0x3A83126F#32 := by
  pointwise [lossOf]
  simp only [c_32768, c_65536, c_8]

/-- The counts of the sorted places. -/
theorem hot_top (s : Fin 8 → EReal) (j : Fin 2) (e : Fin 8) :
    (((IntOp.cmpi .eq (BitVec.ofNat 32 (top s j).val) (BitVec.ofNat 32 e.val)).toNat : ℝ) : EReal) = if top s j = e then 1 else 0 := by
  rw [cmp_eq]
  split <;> simp

/-- The loss as the reference computes it from the scores. -/
def loss (s : Fin 32768 → Fin 8 → EReal) : EReal :=
  (∑ k : Fin 8, Ideal.div (∑ t, s t k) ((32768 : ℝ) : EReal) * (Ideal.div (∑ t, tally (s t) k) ((65536 : ℝ) : EReal) * ((8 : ℝ) : EReal))) * Ideal.ofBits .f32 0x3A83126F#32

theorem loss_at (S : FVec Ideal S32768x8 .f32) (i : S_.Idx) : lossOf S (hots (tops S).2) i = loss fun t e => S (ix2 t e) := by
  have h (e : Fin 8) : ∑ r : Fin 65536, hots (tops S).2 (ix2 r e) = ∑ t : Fin 32768, tally (fun e => S (ix2 t e)) e := by
    refine (Fin.sum_univ_tiles 32768 2 rfl _).trans (Finset.sum_congr rfl fun t _ => Finset.sum_congr rfl fun j _ => ?_)
    refine (hots_at (tops S).2 t j e (by omega)).trans ?_
    rw [tops_idx, hot_top]
  rw [lossOf_at]
  unfold loss
  simp only [h]

end Cert.Proof.RefVal

end
-- ==== Proof.Loss.lean ====
/- The two losses are one: where every score is nonnegative the two counts agree and the scalings are one product; where a
   token's scores are the least extended real, so are both sums. -/
module

public import proofs.«01_k».proof.Proof.RefVal

@[expose] public section

noncomputable section

namespace Cert.Proof.Loss

open Idealize.ShloMosaic
open Cert.Proof.Soft Cert.Proof.Rank

theorem sum_bot {ι : Type} [Fintype ι] [DecidableEq ι] (f : ι → EReal) (i : ι) (h : f i = ⊥) : ∑ k, f k = ⊥ := by
  rw [← Finset.add_sum_erase Finset.univ f (Finset.mem_univ i), h, EReal.bot_add]

theorem sum_pos {ι : Type} [Fintype ι] (f : ι → EReal) (hf : ∀ k, 0 ≤ f k) (i : ι) (h : 0 < f i) : 0 < ∑ k, f k :=
  lt_of_lt_of_le h (Finset.single_le_sum (fun k _ => hf k) (Finset.mem_univ i))

theorem div_bot : Ideal.div ⊥ ((32768 : ℝ) : EReal) = ⊥ := by
  rw [Ideal.div_coe (by norm_num : (32768 : ℝ) ≠ 0)]
  exact EReal.bot_mul_coe_of_pos (by norm_num)

theorem mul_pos' {x : EReal} (hx : 0 < x) {r : ℝ} (hr : 0 < r) : 0 < x * (r : EReal) :=
  EReal.mul_pos hx (EReal.coe_pos.2 hr)

theorem eq (l : Fin 32768 → Fin 8 → EReal) : GateVal.loss (fun t => soft (l t)) = RefVal.loss (fun t => soft (l t)) := by
  by_cases hg : ∀ t, ∀ e, 0 ≤ soft (l t) e
  · have h (k : Fin 8) : (∑ t, count (soft (l t)) k) * ((1 / 8192 : ℝ) : EReal)
        = Ideal.div (∑ t, tally (soft (l t)) k) ((65536 : ℝ) : EReal) * ((8 : ℝ) : EReal) := by
      simp only [fun t => count_eq (hg t) k]
      generalize (∑ t, tally (soft (l t)) k) = x
      rw [Ideal.div_coe (by norm_num : (65536 : ℝ) ≠ 0), mul_assoc, ← EReal.coe_mul]
      norm_num
    unfold GateVal.loss RefVal.loss
    simp only [h]
  · push Not at hg
    obtain ⟨t, e, hte⟩ := hg
    have hb : ∀ e, soft (l t) e = ⊥ := (soft_cases (l t)).resolve_right fun h => absurd (h e) (not_le.2 hte)
    have hP (k : Fin 8) : Ideal.div (∑ t, soft (l t) k) ((32768 : ℝ) : EReal) = ⊥ := by
      rw [sum_bot _ t (hb k), div_bot]
    unfold GateVal.loss RefVal.loss
    rw [sum_bot _ (top (soft (l t)) 0), sum_bot _ (top (soft (l t)) 0)]
    · rw [hP, Ideal.div_coe (by norm_num : (65536 : ℝ) ≠ 0)]
      refine EReal.bot_mul_of_pos (mul_pos' (mul_pos' (sum_pos _ (fun t => tally_nonneg _ _) t (tally_top _)) (by norm_num)) (by norm_num))
    · rw [hP]
      exact EReal.bot_mul_of_pos (mul_pos' (sum_pos _ (fun t => count_nonneg _ _) t (count_top _)) (by norm_num))

end Cert.Proof.Loss

end
-- ==== Proof.Tile.lean ====
/- One tile's task, at a symbolic (SparseCore, subcore) pair: the block of scores in, the routing of its 1024 tokens
   sixteen at a time, the block of results out. -/
module

public import proofs.«01_k».proof.Proof.Common

@[expose] public section

noncomputable section

namespace Cert.Proof.Tile

open Cert.KernelIdeal Cert.KernelIdeal.Gen
open Cert.Proof.Route Cert.Proof.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
abbrev sI : Memref sig .scVector .vmem S8x1024 .f32 := Memref.whole cc1_scratch0
abbrev sC : Memref sig .scVector .vmem S4x1024 .f32 := Memref.whole cc1_scratch1

variable (m : (ℓ : Loc nD τ sig) → Buf (Elt F) ℓ) (Sc : (d : Dev nD) → Buf (Elt F) (sLoc d))

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The tile's block. -/
abbrev wL (L : grid1.Coords) : Fin 32 := wid (Fin.cast bound_zero (L 0)) (Fin.cast bound_one (L 1))

abbrev rowX (L : grid1.Coords) : Rect S32x8x1024 := Rect.unit (s := S32x8x1024) (k1_off1 L) S1x8x1024.size (k1_off1_inb L)
abbrev rowO (L : grid1.Coords) : Rect S32x4x1024 := Rect.unit (s := S32x4x1024) (k1_off14 L) S1x4x1024.size (k1_off14_inb L)
abbrev xRowK (L : grid1.Coords) : Memref sig .scVector .hbm S8x1024 .f32 := ((xV).slice (rowX L) (fun _ => rfl)).squeeze S8x1024 squeezes_S1x8x1024_S8x1024
abbrev oRowK (L : grid1.Coords) : Memref sig .scVector .hbm S4x1024 .f32 := ((oV).slice (rowO L) (fun _ => rfl)).squeeze S4x1024 squeezes_S1x4x1024_S4x1024

omit [FloatOps F] in
theorem rowX_eq : rowX L = row8 (wL L) := by
  unfold rowX row8 Rect.part Rect.block
  congr 1 <;> funext a
  · rw [k1_off1_eq]
    match a with
    | 0 => simp [Shape.partIx, Shape.partSize, wid]; rfl
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem rowO_eq : rowO L = row4 (wL L) := by
  unfold rowO row4 Rect.part Rect.block
  congr 1 <;> funext a
  · rw [k1_off14_eq]
    match a with
    | 0 => simp [Shape.partIx, Shape.partSize, wid]; rfl
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem set_xRowK : (xRowK L).view.set = set8 (wL L) := by
  show (((xV).view.slice (rowX L)).reshape S8x1024 squeezes_S1x8x1024_S8x1024.numel_eq).set = ((xV).view.slice (row8 (wL L))).set
  rw [View.set_reshape]
  exact rowX_eq L ▸ rfl
omit [FloatOps F] in
theorem set_oRowK : (oRowK L).view.set = set4 (wL L) := by
  show (((oV).view.slice (rowO L)).reshape S4x1024 squeezes_S1x4x1024_S4x1024.numel_eq).set = ((oV).view.slice (row4 (wL L))).set
  rw [View.set_reshape]
  exact rowO_eq L ▸ rfl
omit [FloatOps F] in
theorem pts_xRowK (f : Buf (Elt F) (sLoc d)) :
    ((xRowK L).view.loc (V d (cV L) (jV L)) ↦[(xRowK L).view.set]{fullShare} f : sProp 𝕄) = sLoc d ↦[set8 (wL L)]{fullShare} f := by
  rw [set_xRowK]
omit [FloatOps F] in
theorem pts_oRowK (f : Buf (Elt F) (oLoc d)) :
    ((oRowK L).view.loc (V d (cV L) (jV L)) ↦[(oRowK L).view.set]{fullShare} f : sProp 𝕄) = oLoc d ↦[set4 (wL L)]{fullShare} f := by
  rw [set_oRowK]
omit [FloatOps F] in
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
omit [FloatOps F] in
theorem pts_sC (f : Buf (Elt F) ((V d (cV L) (jV L)).loc cc1_scratch1)) :
    ((sC).view.loc (V d (cV L) (jV L)) ↦{fullShare} f : sProp 𝕄) = (V d (cV L) (jV L)).loc cc1_scratch1 ↦{fullShare} f := rfl

/-- The two scoped cells: the fetch's and the write-out's. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- A trip's token at lane `l`. -/
def tok (k : Fin k1_t1_loop.trips) (l : Fin 16) : Fin 1024 := ⟨16 * k.val + l.val, by have := k.isLt; have h : k1_t1_loop.trips = 64 := by decide
                                                                                      omega⟩

/-- What a load of expert `e`'s row at trip `k` reads at a lane. -/
theorem load_at (k : Fin k1_t1_loop.trips) (fI : S8x1024.Idx → F .f32) (e : Fin 8) (off : Fin 2 → ℕ) (ho : off = ![e.val, 16 * k.val])
    (inb : ∀ a, off a + S1x16.size a ≤ S8x1024.size a) (j : S1x16.Idx) :
    (sI).view.readAt (Elt F) (Rect.unit (s := S8x1024) off S1x16.size inb).toLoadRect fI j = fI (ix8 e (tok k (j 1))) := by
  subst ho
  refine congrArg fI (funext fun a => Fin.ext ?_)
  match a with
  | 0 =>
    have h0 : (j 0).val = 0 := Nat.lt_one_iff.mp (j 0).isLt
    show e.val + 1 * (j 0).val = e.val
    omega
  | 1 =>
    show 16 * k.val + 1 * (j 1).val = 16 * k.val + (j 1).val
    omega

/-- One store of a trip, read at its own row and lane, -/
theorem hit (k : Fin k1_t1_loop.trips) (g : S4x1024.Idx → F .f32) (r : Fin 4) (off : Fin 2 → ℕ) (ho : off = ![r.val, 16 * k.val])
    (inb : ∀ a, off a + S1x16.size a ≤ S4x1024.size a) (w : S1x16.Idx → F .f32) (Ls : List (View.Piece (Elt F) S4x1024 .f32)) (y : S4x1024.Idx)
    (hr : (y 0 : Fin 4) = r) (j : S1x16.Idx) (hj : (y 1).val = 16 * k.val + (j 1).val) :
    (sC).view.writes (Elt F) g (⟨Rect.unit (s := S4x1024) off S1x16.size inb, w⟩ :: Ls) y = w j := by
  subst ho
  refine View.read_writes_cons_hit_of_coords (sC).view g (Rect.unit (s := S4x1024) _ S1x16.size inb) w Ls j y fun a => ?_
  match a with
  | 0 =>
    have h0 : (j 0).val = 0 := Nat.lt_one_iff.mp (j 0).isLt
    show (y 0).val = r.val + 1 * (j 0).val
    rw [hr, h0]; rfl
  | 1 =>
    show (y 1).val = 16 * k.val + 1 * (j 1).val
    omega
/-- and at another row or outside its lanes. -/
theorem miss (k : Fin k1_t1_loop.trips) (g : S4x1024.Idx → F .f32) (r : Fin 4) (off : Fin 2 → ℕ) (ho : off = ![r.val, 16 * k.val])
    (inb : ∀ a, off a + S1x16.size a ≤ S4x1024.size a) (w : S1x16.Idx → F .f32) (Ls : List (View.Piece (Elt F) S4x1024 .f32)) (y : S4x1024.Idx)
    (h : (y 0 : Fin 4) ≠ r ∨ (y 1).val < 16 * k.val) :
    (sC).view.writes (Elt F) g (⟨Rect.unit (s := S4x1024) off S1x16.size inb, w⟩ :: Ls) y = (sC).view.writes (Elt F) g Ls y := by
  subst ho
  rcases h with h | h
  · refine View.read_writes_cons_miss_of_axis (sC).view g ⟨Rect.unit (s := S4x1024) _ S1x16.size inb, w⟩ Ls y 0 r.val 1 rfl rfl rfl ?_
    have : (y 0).val ≠ r.val := fun e => h (Fin.ext e)
    omega
  · exact View.read_writes_cons_miss_of_axis (sC).view g ⟨Rect.unit (s := S4x1024) _ S1x16.size inb, w⟩ Ls y 1 (16 * k.val) 16 rfl rfl rfl (.inl h)

/-- A trip's four stores leave its sixteen tokens routed, and the earlier ones as they were. -/
theorem trip (k : Fin k1_t1_loop.trips) (fI : S8x1024.Idx → F .f32) (g : S4x1024.Idx → F .f32) (w0 w1 w2 w3 : S1x16.Idx → F .f32)
    (h0 : ∀ j, w0 j = route (fun e => fI (ix8 e (tok k (j 1)))) 0) (h1 : ∀ j, w1 j = route (fun e => fI (ix8 e (tok k (j 1)))) 1)
    (h2 : ∀ j, w2 j = route (fun e => fI (ix8 e (tok k (j 1)))) 2) (h3 : ∀ j, w3 j = route (fun e => fI (ix8 e (tok k (j 1)))) 3)
    (hg : ∀ y : S4x1024.Idx, (y 1).val < 16 * k.val → g y = routeAt fI y) (y : S4x1024.Idx) (hy : (y 1).val < 16 * (k.val + 1)) :
    (sC).view.writes (Elt F) g [⟨Rect.unit (s := S4x1024) (k1_off13 k) S1x16.size (k1_off13_inb k), w3⟩,
      ⟨Rect.unit (s := S4x1024) (k1_off12 k) S1x16.size (k1_off12_inb k), w2⟩, ⟨Rect.unit (s := S4x1024) (k1_off11 k) S1x16.size (k1_off11_inb k), w1⟩,
      ⟨Rect.unit (s := S4x1024) (k1_off10 k) S1x16.size (k1_off10_inb k), w0⟩] y = routeAt fI y := by
  by_cases hlt : (y 1).val < 16 * k.val
  · rw [miss k g 3 _ (k1_off13_eq k) _ _ _ _ (.inr hlt), miss k g 2 _ (k1_off12_eq k) _ _ _ _ (.inr hlt),
      miss k g 1 _ (k1_off11_eq k) _ _ _ _ (.inr hlt), miss k g 0 _ (k1_off10_eq k) _ _ _ _ (.inr hlt)]
    exact hg y hlt
  · let j : S1x16.Idx := fun | 0 => (0 : Fin 1) | 1 => (⟨(y 1).val - 16 * k.val, by omega⟩ : Fin 16) | ⟨_ + 2, h⟩ => absurd h (Nat.not_lt.2 (Nat.le_add_left _ _))
    have hj : (y 1).val = 16 * k.val + (j 1).val := by show _ = _ + ((y 1).val - 16 * k.val); omega
    have ht : tok k (j 1) = y 1 := Fin.ext hj.symm
    have hr4 : ∀ r : Fin 4, r = 0 ∨ r = 1 ∨ r = 2 ∨ r = 3 := by decide
    have hne : ∀ {r r' : Fin 4}, (y 0 : Fin 4) = r → r ≠ r' → (y 0 : Fin 4) ≠ r' := fun e h e' => h (e.symm.trans e')
    unfold routeAt
    rw [← ht]
    rcases hr4 (y 0) with hr | hr | hr | hr
    · rw [miss k g 3 _ (k1_off13_eq k) _ _ _ _ (.inl (hne hr (by decide))), miss k g 2 _ (k1_off12_eq k) _ _ _ _ (.inl (hne hr (by decide))),
        miss k g 1 _ (k1_off11_eq k) _ _ _ _ (.inl (hne hr (by decide))), hit k g 0 _ (k1_off10_eq k) _ _ _ _ hr j hj, hr]
      exact h0 j
    · rw [miss k g 3 _ (k1_off13_eq k) _ _ _ _ (.inl (hne hr (by decide))), miss k g 2 _ (k1_off12_eq k) _ _ _ _ (.inl (hne hr (by decide))),
        hit k g 1 _ (k1_off11_eq k) _ _ _ _ hr j hj, hr]
      exact h1 j
    · rw [miss k g 3 _ (k1_off13_eq k) _ _ _ _ (.inl (hne hr (by decide))), hit k g 2 _ (k1_off12_eq k) _ _ _ _ hr j hj, hr]
      exact h2 j
    · rw [hit k g 3 _ (k1_off13_eq k) _ _ _ _ hr j hj, hr]
      exact h3 j

/-- The eight rows a trip loads, at a lane, are its token's eight scores. -/
abbrev ldRow (k : Fin k1_t1_loop.trips) (fI : S8x1024.Idx → F .f32) (off : Fin 2 → ℕ) (inb : ∀ a, off a + S1x16.size a ≤ S8x1024.size a) : S1x16.Idx → F .f32 :=
  (sI).view.readAt (Elt F) (Rect.unit (s := S8x1024) off S1x16.size inb).toLoadRect fI

theorem rows_at (k : Fin k1_t1_loop.trips) (fI : S8x1024.Idx → F .f32) (j : S1x16.Idx) :
    scoresAt (ldRow k fI _ (k1_off2_inb k)) (ldRow k fI _ (k1_off3_inb k)) (ldRow k fI _ (k1_off4_inb k)) (ldRow k fI _ (k1_off5_inb k))
      (ldRow k fI _ (k1_off6_inb k)) (ldRow k fI _ (k1_off7_inb k)) (ldRow k fI _ (k1_off8_inb k)) (ldRow k fI _ (k1_off9_inb k)) j
      = fun e => fI (ix8 e (tok k (j 1))) := by
  funext e
  match e with
  | 0 => exact load_at k fI 0 _ (k1_off2_eq k) _ j
  | 1 => exact load_at k fI 1 _ (k1_off3_eq k) _ j
  | 2 => exact load_at k fI 2 _ (k1_off4_eq k) _ j
  | 3 => exact load_at k fI 3 _ (k1_off5_eq k) _ j
  | 4 => exact load_at k fI 4 _ (k1_off6_eq k) _ j
  | 5 => exact load_at k fI 5 _ (k1_off7_eq k) _ j
  | 6 => exact load_at k fI 6 _ (k1_off8_eq k) _ j
  | 7 => exact load_at k fI 7 _ (k1_off9_eq k) _ j

/-- A place of the tile's block, in the whole arrays. -/
theorem emb_x (z : S8x1024.Idx) : (xRowK L).view.emb z = ix32x8 (wL L) (z 0) (z 1) := by
  refine (show (xRowK L).view.emb z = (rowX L).emb (Shape.reshapeEquiv squeezes_S1x8x1024_S8x1024.numel_eq z) from rfl).trans ?_
  rw [Shape.reshapeEquiv_cons_one (d := ![8, 1024])]
  funext a; apply Fin.ext
  match a with
  | 0 => show k1_off1 L 0 + 1 * 0 = _; rw [k1_off1_eq]; rfl
  | 1 => show k1_off1 L 1 + 1 * (z 0).val = _; rw [k1_off1_eq]; show 0 + 1 * (z 0).val = (z 0).val; omega
  | 2 => show k1_off1 L 2 + 1 * (z 1).val = _; rw [k1_off1_eq]; show 0 + 1 * (z 1).val = (z 1).val; omega
theorem emb_o (y : S4x1024.Idx) (a : Fin 3) :
    ((oRowK L).view.emb y a).val = match a with | 0 => (wL L).val | 1 => (y 0).val | 2 => (y 1).val := by
  rw [show (oRowK L).view.emb y = (rowO L).emb (Shape.reshapeEquiv squeezes_S1x4x1024_S4x1024.numel_eq y) from rfl,
    Shape.reshapeEquiv_cons_one (d := ![4, 1024])]
  match a with
  | 0 => show k1_off14 L 0 + 1 * 0 = _; rw [k1_off14_eq]; rfl
  | 1 => show k1_off14 L 1 + 1 * (y 0).val = _; rw [k1_off14_eq]; show 0 + 1 * (y 0).val = (y 0).val; omega
  | 2 => show k1_off14 L 2 + 1 * (y 1).val = _; rw [k1_off14_eq]; show 0 + 1 * (y 1).val = (y 1).val; omega

theorem emb_o' (y : S4x1024.Idx) :
    ((((oRowK L).view.emb y) 0 : Fin 32) = wL L) ∧ ((((oRowK L).view.emb y) 1 : Fin 4) = y 0) ∧ ((((oRowK L).view.emb y) 2 : Fin 1024) = y 1) :=
  ⟨Fin.ext (emb_o L y 0), Fin.ext (emb_o L y 1), Fin.ext (emb_o L y 2)⟩

/-- The whole array routed, at a place of the tile's rows, is the tile's block of scores routed. -/
theorem routed_at (A : S32x8x1024.Idx → F .f32) (X : S8x1024.Idx → F .f32) (hX : ∀ z, X z = A (ix32x8 (wL L) (z 0) (z 1))) (y : S4x1024.Idx) :
    routeAt X y = routed A ((oRowK L).view.emb y) := by
  obtain ⟨e0, e1, e2⟩ := emb_o' L y
  unfold routeAt routed
  rw [e0, e1, e2]
  exact congrFun (congrArg route (funext fun e => hX (ix8 e (y 1)))) _

/-- What the fetch leaves in the tile's scratch. -/
theorem fetched_at (fs : S8x1024.Idx → F .f32) (A : Buf (Elt F) (sLoc d)) (z : S8x1024.Idx) :
    View.write (Elt F) (sI).view fs ((xRowK L).view.read (Elt F) A) Finset.univ z = A (ix32x8 (wL L) (z 0) (z 1)) := by
  refine (congrFun (View.write_whole_univ (Val := Elt F) cc1_scratch0 fs ((xRowK L).view.read (Elt F) A)) z).trans ?_
  exact congrArg A (emb_x L z)

/-- A whole-view write, read back. -/
theorem read_written {κ : Kind} {sp : Space} {s : Shape} {e : EltTy} (v : View sig κ sp s e) (f : v.ty.Contents (Elt F)) (g : s.Idx → Elt F e) (y : s.Idx) :
    v.read (Elt F) (v.writes (Elt F) f [⟨Rect.whole s, g⟩]) y = g y :=
  View.read_writes_cons_hit v f (Rect.whole s) g [] y y (Rect.emb_whole_apply s y)

theorem written_at (fo : Buf (Elt F) (oLoc d)) (g : S4x1024.Idx → F .f32) (y : S4x1024.Idx) (i : S32x4x1024.Idx) (h : (oRowK L).view.emb y = i) :
    (oRowK L).view.writes (Elt F) fo [⟨Rect.whole S4x1024, g⟩] i = g y := by
  have := read_written (F := F) (oRowK L).view fo g y
  rw [View.read_apply, h] at this
  refine Eq.trans ?_ this
  exact (cast_eq _ _).symm

/-- What the write-out leaves in the tile's rows of the result is the routed array there. -/
theorem out_at (fs : S8x1024.Idx → F .f32) (fo : Buf (Elt F) (oLoc d)) (g : S4x1024.Idx → F .f32)
    (hg : ∀ y : S4x1024.Idx, g y = routeAt (View.write (Elt F) (sI).view fs ((xRowK L).view.read (Elt F) (Sc d)) Finset.univ) y)
    (i : S32x4x1024.Idx) (hi : i ∈ (oRowK L).view.set) :
    (oRowK L).view.writes (Elt F) fo [⟨Rect.whole S4x1024, g⟩] i = Out Sc d i := by
  obtain ⟨y, -, hy⟩ := Finset.mem_map.mp hi
  rw [written_at d L fo g y i hy, hg y, ← hy]
  exact routed_at L (Sc d) _ (fetched_at d L fs (Sc d)) y

theorem trips_eq : 16 * Scf.trips k1_t1_loop.lb k1_t1_loop.ub k1_t1_loop.st = S4x1024.size 1 := by decide

/-- Before trip `k`: the tokens of the trips before it are routed. -/
def inv (O : CellTallies nD τ sig (HIx 1)) (fI : Buf (Elt F) ((sI).view.loc (V d (cV L) (jV L)))) (k : Nat) (_ : PUnit) : sProp 𝕄 :=
  iprop(((sI).view.loc (V d (cV L) (jV L)) ↦{fullShare} fI)
    ∗ ∃ g, ⌜∀ y : S4x1024.Idx, (y 1).val < 16 * k → g y = routeAt fI y⌝ ∗ ((sC).view.loc (V d (cV L) (jV L)) ↦{fullShare} g))

theorem tile_body (hF : (K (F := F)).Facts) (O : CellTallies nD τ sig (HIx 1)) (W : Waits sig (HIx 1)) (hO : ∀ g, O g none = 0) :
    iprop(levAts (K (F := F)).L (K (F := F)).lev ∗ emp ∗ goPts m Sc d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__route_body L xV (Memref.isWhole_whole _) oV (Memref.isWhole_whole _) sI (Memref.isWhole_whole _) sC (Memref.isWhole_whole _) cc1_scoped0 cc1_scoped1)
          fun _ => iprop(tdPts Sc d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, ⟨%fc, Hc⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRowK (F := F) d L _).symm) $$ Hx
  ihave Ho' := (Entails.of_eq (pts_oRowK (F := F) d L _).symm) $$ Ho
  ihave Hs' := (Entails.of_eq (pts_sI (F := F) d L _).symm) $$ Hs
  ihave Hc' := (Entails.of_eq (pts_sC (F := F) d L _).symm) $$ Hc
  sl_unfold [cc1__route_body]
  sl_exec (disch := exact View.amount_pos _ _ (show 0 < S8x1024.numel by decide))
  sl_for (inv d L O (View.write (Elt F) (sI).view fs ((xRowK L).view.read (Elt F) (Sc d)) Finset.univ)) $$ [Hs' Hc']
  case region =>
    intro k _
    unfold inv
    iintro ⟨Hs, %g, %hg, Hc⟩
    sl_exec
    sl_step
    isplitl [Hs]; · iexact Hs
    iexists _
    isplitr
    swap; · iexact Hc
    ipureintro
    refine trip k _ g _ _ _ _ (fun j => ?_) (fun j => ?_) (fun j => ?_) (fun j => ?_) hg
    · rw [← rows_at k]; exact row0 _ _ _ _ _ _ _ _ j
    · rw [← rows_at k]; exact row1 _ _ _ _ _ _ _ _ j
    · rw [← rows_at k]; exact row2 _ _ _ _ _ _ _ _ j
    · rw [← rows_at k]; exact row3 _ _ _ _ _ _ _ _ j
  · unfold inv
    isplitl [Hs']; · iexact Hs'
    iexists _
    isplitr
    swap; · iexact Hc'
    ipureintro
    intro y hy; omega
  unfold inv
  iintro %_ ⟨Hs', %g, %hg, Hc'⟩
  sl_exec (disch := exact View.amount_pos _ _ (show 0 < S4x1024.numel by decide))
  sl_step
  have hall : ∀ y : S4x1024.Idx, g y = routeAt (View.write (Elt F) (sI).view fs ((xRowK L).view.read (Elt F) (Sc d)) Finset.univ) y :=
    fun y => hg y (lt_of_lt_of_eq (y 1).isLt trips_eq.symm)
  isplitl [Hx' Ho']
  · isplitl [Hx']; · iapply (Entails.of_eq (pts_xRowK (F := F) d L _)); iexact Hx'
    iapply (Entails.of_eq ((pointsTo_congr (out_at Sc d L fs (m (oLoc d)) g hall)).trans (pts_oRowK (F := F) d L (Out Sc d))))
    iexact Ho'
  isplitl [Hs' Hc' Hbufs]
  · isplitl [Hs']; · iexists _; iexact Hs'
    isplitl [Hc']; · iexists _; iexact Hc'
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__route_body (coordsV c s)
          xV (Memref.isWhole_whole _) oV (Memref.isWhole_whole _) sI (Memref.isWhole_whole _) sC (Memref.isWhole_whole _) cc1_scoped0 cc1_scoped1) ⟨⟩ c s := rfl

theorem tileObl (hF : (K (F := F)).Facts) : (K (F := F)).TileObl (D (F := F)) 𝒱 (P m Sc) v₀ 0 := by
  intro d c i O W hO _ _
  simp only [show (P m Sc).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m Sc d (coordsV ⟨_, hci.1⟩ ⟨_, hci.2⟩) hF O W hO

end Cert.Proof.Tile

end
-- ==== Proof.Launch.lean ====
/- The program's run: @main on the TensorCore from the launch contents (the reshape, the gate region, the routing call, the
   host lines after it), and the launch of every thread. -/
module

public import proofs.«01_k».proof.Proof.Region
public import proofs.«01_k».proof.Proof.Tile

@[expose] public section

noncomputable section

namespace Cert.Proof.Launch

open Cert.KernelIdeal Cert.KernelIdeal.Gen
open Cert.Proof.Common Cert.Proof.Region

open Idealize.ShloMosaic Idealize.ShloMosaic.TcCoe
open Idealize.ShloMosaic.SparseCore (S V T)
open Idealize.ShloMosaic.SparseCore.Cfg (HIx Pay)
open Idealize.ShloMosaic.StableHlo (held after seq)
open Idealize.ShloMosaic.Pipeline (ucRefs cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host lines -/

abbrev op0 : HloOp τ sig (Elt F) := StableHlo.reshape main_arg0 main_v0 (rfl : (.f32 : EltTy) = .f32) shapeCasts_S4x8192x2048_S32768x2048

/-- The host lines after the routing call. -/
abbrev t1 : HloOp τ sig (Elt F) := StableHlo.unary main_v2 main_v3 ((transpose S32x1024x4 [0, 2, 1] · transposes_S32x4x1024_S32x1024x4_0_2_1) : (⟨S32x4x1024, .f32⟩ : BufTy).Contents (Elt F) → (⟨S32x1024x4, .f32⟩ : BufTy).Contents (Elt F))
abbrev t2 : HloOp τ sig (Elt F) := StableHlo.unary main_v3 main_v4 ((extractStridedSlice S32x1024x2 ![0, 0, 0] · slices_S32x1024x4_S32x1024x2_0_0_0) : (⟨S32x1024x4, .f32⟩ : BufTy).Contents (Elt F) → (⟨S32x1024x2, .f32⟩ : BufTy).Contents (Elt F))
abbrev t3 : HloOp τ sig (Elt F) := StableHlo.unary main_v4 main_v5 (fptosi 32 : (⟨S32x1024x2, .f32⟩ : BufTy).Contents (Elt F) → (⟨S32x1024x2, .i32⟩ : BufTy).Contents (Elt F))
abbrev t4 : HloOp τ sig (Elt F) := StableHlo.reshape main_v5 main_v6 (rfl : (.i32 : EltTy) = .i32) shapeCasts_S32x1024x2_S32768x2
abbrev t5 : HloOp τ sig (Elt F) := StableHlo.unary main_v3 main_v7 ((extractStridedSlice S32x1024x2 ![0, 0, 2] · slices_S32x1024x4_S32x1024x2_0_0_2) : (⟨S32x1024x4, .f32⟩ : BufTy).Contents (Elt F) → (⟨S32x1024x2, .f32⟩ : BufTy).Contents (Elt F))
abbrev t6 : HloOp τ sig (Elt F) := StableHlo.reshape main_v7 main_v8 (rfl : (.f32 : EltTy) = .f32) shapeCasts_S32x1024x2_S32768x2
abbrev t7 : HloOp τ sig (Elt F) := StableHlo.unary main_v1_1 main_v9 ((extractStridedSlice S1x1 ![0, 0] · slices_S8x128_S1x1_0_0) : (⟨S8x128, .f32⟩ : BufTy).Contents (Elt F) → (⟨S1x1, .f32⟩ : BufTy).Contents (Elt F))
abbrev t8 : HloOp τ sig (Elt F) := StableHlo.reshape main_v9 main_v10 (rfl : (.f32 : EltTy) = .f32) shapeCasts_S1x1_S_
abbrev tail : List (HloOp τ sig (Elt F)) := [t1, t2, t3, t4, t5, t6, t7, t8]

theorem t1_sub : (t1 (F := F)).bufs ⊆ ucRefs τ sig := Pipeline.sub_ucRefs _ (StableHlo.unary_bufs_sub ..)
theorem t2_sub : (t2 (F := F)).bufs ⊆ ucRefs τ sig := Pipeline.sub_ucRefs _ (StableHlo.unary_bufs_sub ..)
theorem t3_sub : (t3 (F := F)).bufs ⊆ ucRefs τ sig := Pipeline.sub_ucRefs _ (StableHlo.unary_bufs_sub ..)
theorem t4_sub : (t4 (F := F)).bufs ⊆ ucRefs τ sig := Pipeline.sub_ucRefs _ (StableHlo.reshape_bufs_sub ..)
theorem t5_sub : (t5 (F := F)).bufs ⊆ ucRefs τ sig := Pipeline.sub_ucRefs _ (StableHlo.unary_bufs_sub ..)
theorem t6_sub : (t6 (F := F)).bufs ⊆ ucRefs τ sig := Pipeline.sub_ucRefs _ (StableHlo.reshape_bufs_sub ..)
theorem t7_sub : (t7 (F := F)).bufs ⊆ ucRefs τ sig := Pipeline.sub_ucRefs _ (StableHlo.unary_bufs_sub ..)
theorem t8_sub : (t8 (F := F)).bufs ⊆ ucRefs τ sig := Pipeline.sub_ucRefs _ (StableHlo.reshape_bufs_sub ..)

/-! ## The contents along the way -/

variable (m : (ℓ : Loc nD τ sig) → Buf (Elt F) ℓ) (ρ : Dev nD → PrngReg)

/-- The launch contents, the contents the gate region is entered at, left at, those after the routing call, and the last. -/
def v0 (d : Dev nD) : Valuation τ sig (Elt F) := fun b => m (d, b)
def v1 (d : Dev nD) : Valuation τ sig (Elt F) := op0.result (v0 m d)
def v2 (d : Dev nD) : Valuation τ sig (Elt F) := out (v1 m) d
def sc' (d : Dev nD) : Buf (Elt F) (sLoc d) := v2 m d (Proc.devRef .tc main_v1_0)
def v3 (d : Dev nD) : Valuation τ sig (Elt F) := Function.update (v2 m d) (Proc.devRef .tc main_v2) (Out (sc' m) d)
def v4 (d : Dev nD) : Valuation τ sig (Elt F) := after tail (v3 m d)

abbrev Pm : (K (F := F)).Pay (nD := nD) (Val := Elt F) (Name := ℕ) (U := UU) := P m (sc' m)

abbrev FIN (d : Dev nD) : sProp 𝕄 := held (d.tc : Thread nD τ) (ucRefs τ sig) (v4 m d)

abbrev G (d : Dev nD) : sProp 𝕄 :=
  iprop(cellsGhost (Pipeline.pin (pcfgs (F := F)) adm) (EP (F := F)) 0 d ∗ toksInit (Pipeline.pin (pcfgs (F := F)) adm) (EP (F := F)) 0 d)

theorem phinj : Function.Injective (Pipeline.cellOf (nD := nD) (τ := τ) (Pipeline.pin (pcfgs (F := F)) adm)) := cellOf_inj

def refs2 : Finset (DevRef τ sig) := {Proc.devRef .tc main_v1_0, Proc.devRef .tc main_v2}
theorem refs2_sub : refs2 ⊆ ucRefs τ sig := by decide

theorem held_refs2 (d : Dev nD) (W : Valuation τ sig (Elt F)) :
    (held (d.tc : Thread nD τ) refs2 W : sProp 𝕄)
      = iprop((sLoc d ↦{fullShare} W (Proc.devRef .tc main_v1_0)) ∗ oLoc d ↦{fullShare} W (Proc.devRef .tc main_v2)) := by
  unfold held refs2
  rw [SparseCore.bigSep_insert' (by decide), bigSep_singleton]

theorem v2_o (d : Dev nD) : v2 m d (Proc.devRef .tc main_v2) = m (oLoc d) := by
  unfold v2 out
  rw [Function.update_of_ne (by decide), Function.update_of_ne (by decide)]
  exact op0.result_of_not_mem _ (show Proc.devRef .tc main_v2 ∉ ({Proc.devRef .tc main_v0} : Finset (DevRef τ sig)) from by decide)

theorem arr_sub : Pipeline.arrRefs (τ := τ) spec0 ⊆ ucRefs τ sig := Pipeline.arrRefs_sub_ucRefs spec0 (by decide)

/-- The call of the gate region in the program's own signature, and that @main's call is it lifted. -/
def call : Prog (TpuEff nD τ sig (Elt F) (ΛP (F := F)) .tc) PUnit := .op (.customCall (Pipeline.entry 0) ()) .ret
theorem lift_call : (Prog.lift (.customCall (SparseCore.inner (Pipeline.entry 0)) ()) :
    Prog (TpuEff nD τ sig (Elt F) (SparseCore.Sig (ΛP (F := F)) 1) .tc) PUnit) = SparseCore.liftProg call := rfl

/-- The gate region, called from @main. -/
theorem region_wp (d : Dev nD) (Q : PUnit → sProp 𝕄) :
    iprop((iprop(boundary (d.tc : Thread nD τ) ∗ thread d (v2 m d)) -∗ Q ⟨⟩) ∗ boundary (d.tc : Thread nD τ) ∗ thread d (v1 m d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  rw [lift_call]
  refine BIBase.Entails.trans ?_ (SparseCore.Cfg.wp_liftProg (K (F := F)) (D (F := F)) 𝒱 (d.tc : Thread nD τ) Set.univ none (call (F := F)) Q)
  have h := Pipeline.RegionSeg.wp (pcfgs (F := F)) adm (pdats (v1 m)) none phinj (EP (F := F)) defs₀ 𝒱₀ (K (F := F)).L (K (F := F)).lev
    (reg (v1 m)) d none (fun _ h => nomatch h) (.ret : PUnit → Prog (TpuEff nD τ sig (Elt F) (ΛP (F := F)) .tc) PUnit) Q
  refine BIBase.Entails.trans ?_ h
  show _ ⊢ iprop((iprop(boundary (d.tc : Thread nD τ) ∗ thread d (out (v1 m) d)) -∗ _) ∗ boundary (d.tc : Thread nD τ) ∗ thread d (v1 m d) ∗ _ ∗ _ ∗ _)
  iintro ⟨Hk, Hb, Ht, Hl, Hg, Htk⟩
  isplitl [Hk]
  · iintro H; rw [wp_ret]; imodintro
    iapply Hk; iexact H
  isplitl [Hb]; · iexact Hb
  isplitl [Ht]; · iexact Ht
  isplitl [Hl]; · iexact Hl
  isplitl [Hg]; · iexact Hg
  iexact Htk

theorem held0 (d : Dev nD) :
    (unscopedBufs d (fun b => m ((SparseCore.T d).loc b)) : sProp 𝕄) = held (d.tc : Thread nD τ) (ucRefs τ sig) (v0 m d) := by
  rw [← Pipeline.unscopedBufs_held]
  exact congrArg (fun f => (unscopedBufs d f : sProp 𝕄)) (funext fun b => rfl)

/-- The region's buffers at what it leaves and the rest untouched are the buffers after the region. -/
theorem held_out (d : Dev nD) :
    (iprop(held (d.tc : Thread nD τ) (Pipeline.arrRefs spec0) (v2 m d)
        ∗ held (d.tc : Thread nD τ) (ucRefs τ sig \ Pipeline.arrRefs spec0) (op0.result (v0 m d))) : sProp 𝕄)
      = held (d.tc : Thread nD τ) (ucRefs τ sig) (v2 m d) := by
  rw [StableHlo.held_sub_split (d.tc : Thread nD τ) arr_sub (v2 m d)]
  refine congrArg (fun X => (iprop(held (d.tc : Thread nD τ) (Pipeline.arrRefs spec0) (v2 m d) ∗ X) : sProp 𝕄)) ?_
  refine StableHlo.held_congr _ fun b hb => ?_
  have h0 := (Finset.mem_sdiff.mp hb).2
  unfold v2 out v1
  rw [Function.update_of_ne (fun h => h0 (by rw [h]; decide) : b ≠ Proc.devRef .tc main_v1_1),
    Function.update_of_ne (fun h => h0 (by rw [h]; decide) : b ≠ Proc.devRef .tc main_v1_0)]

/-- The call's buffers at what it leaves and the rest untouched are the buffers after the call. -/
theorem held_v3 (d : Dev nD) :
    (iprop(((sLoc d ↦{fullShare} sc' m d) ∗ (oLoc d ↦{fullShare} Out (sc' m) d))
        ∗ held (d.tc : Thread nD τ) (ucRefs τ sig \ refs2) (v2 m d)) : sProp 𝕄)
      = held (d.tc : Thread nD τ) (ucRefs τ sig) (v3 m d) := by
  rw [StableHlo.held_sub_split (d.tc : Thread nD τ) refs2_sub (v3 m d), held_refs2]
  have h1 : v3 m d (Proc.devRef .tc main_v1_0) = sc' m d := Function.update_of_ne (by decide) _ _
  have h2 : v3 m d (Proc.devRef .tc main_v2) = Out (sc' m) d := Function.update_self _ _ _
  rw [h1, h2]
  refine congrArg (fun X => (iprop(((sLoc d ↦{fullShare} sc' m d) ∗ (oLoc d ↦{fullShare} Out (sc' m) d)) ∗ X) : sProp 𝕄)) ?_
  refine StableHlo.held_congr _ fun b hb => ?_
  have h0 := (Finset.mem_sdiff.mp hb).2
  exact (Function.update_of_ne (fun h => h0 (by rw [h]; decide) : b ≠ Proc.devRef .tc main_v2) _ _).symm

theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hbufs, Hts, -⟩, ⟨Hcg, Htk⟩⟩
  ihave Hbufs := (Entails.of_eq (held0 m d)) $$ Hbufs
  ihave Hlev := (SparseCore.Cfg.ctx_levAts κ) $$ Hctx
  -- the reshape
  iapply (StableHlo.wp_hlo_within 𝒱 (d.tc : Thread nD τ) none Set.univ (op := op0) (S := ucRefs τ sig) (V := v0 m d)
    (Pipeline.sub_ucRefs _ (StableHlo.reshape_bufs_sub ..)) (hf := rfl)) $$ [Hb Hbufs]
  · isplitl [Hb]; · iexact Hb
    iexact Hbufs
  iintro ⟨Hb, Hbufs⟩
  rw [wp_ret]; imodintro
  -- the gate region, over its four arrays
  ihave Hbufs := (Entails.of_eq (StableHlo.held_sub_split (d.tc : Thread nD τ) arr_sub (op0.result (v0 m d)))) $$ Hbufs
  icases Hbufs with ⟨Harr, Hrest⟩
  unfold SparseCore.Cfg.tcSt
  icases Hst with ⟨HO, Hst⟩
  iapply (region_wp m d)
  isplitr [Hb Harr HO Hlev Hcg Htk]
  swap
  · isplitl [Hb]; · iexact Hb
    isplitl [Harr HO]
    · isplitl [Harr]; · iexact Harr
      iexact HO
    isplitl [Hlev]; · iexact Hlev
    isplitl [Hcg]; · iexact Hcg
    iexact Htk
  iintro ⟨Hb, Harr, HO⟩
  -- its results in place
  ihave Hbufs := (Entails.of_eq (held_out m d)) $$ [Harr Hrest]
  · isplitl [Harr]; · iexact Harr
    iexact Hrest
  -- the routing call, over the scores and its result
  ihave Hbufs := (Entails.of_eq (StableHlo.held_sub_split (d.tc : Thread nD τ) refs2_sub (v2 m d))) $$ Hbufs
  icases Hbufs with ⟨Hcall, Hrest⟩
  iapply ((K (F := F)).wp_run (D (F := F)) 𝒱 (EH := EH) (P := Pm m) κ d 0)
  isplitr; · iexact Hctx
  isplitl [Hst HO]
  · unfold SparseCore.Cfg.tcSt
    isplitl [HO]; · iexact HO
    iexact Hst
  isplitl [Hcall]
  · rw [st_eq]
    ihave Hcall := (Entails.of_eq (held_refs2 d (v2 m d))) $$ Hcall
    rw [v2_o]
    iexact Hcall
  iintro ⟨Hst, Hdn⟩
  ihave Hdn := (Entails.of_eq (dn_eq m (sc' m) d)) $$ Hdn
  ihave Hbufs := (Entails.of_eq (held_v3 m d)) $$ [Hdn Hrest]
  · isplitl [Hdn]; · iexact Hdn
    iexact Hrest
  -- the host lines after it
  iapply (StableHlo.wp_hlo_within 𝒱 (d.tc : Thread nD τ) none Set.univ (op := t1) (S := ucRefs τ sig) (V := (v3 m d)) t1_sub (hf := rfl)) $$ [Hb Hbufs]
  · isplitl [Hb]; · iexact Hb
    iexact Hbufs
  iintro ⟨Hb, Hbufs⟩
  rw [wp_ret]; imodintro
  iapply (StableHlo.wp_hlo_within 𝒱 (d.tc : Thread nD τ) none Set.univ (op := t2) (S := ucRefs τ sig) (V := (t1.result (v3 m d))) t2_sub (hf := rfl)) $$ [Hb Hbufs]
  · isplitl [Hb]; · iexact Hb
    iexact Hbufs
  iintro ⟨Hb, Hbufs⟩
  rw [wp_ret]; imodintro
  iapply (StableHlo.wp_hlo_within 𝒱 (d.tc : Thread nD τ) none Set.univ (op := t3) (S := ucRefs τ sig) (V := (t2.result (t1.result (v3 m d)))) t3_sub (hf := rfl)) $$ [Hb Hbufs]
  · isplitl [Hb]; · iexact Hb
    iexact Hbufs
  iintro ⟨Hb, Hbufs⟩
  rw [wp_ret]; imodintro
  iapply (StableHlo.wp_hlo_within 𝒱 (d.tc : Thread nD τ) none Set.univ (op := t4) (S := ucRefs τ sig) (V := (t3.result (t2.result (t1.result (v3 m d))))) t4_sub (hf := rfl)) $$ [Hb Hbufs]
  · isplitl [Hb]; · iexact Hb
    iexact Hbufs
  iintro ⟨Hb, Hbufs⟩
  rw [wp_ret]; imodintro
  iapply (StableHlo.wp_hlo_within 𝒱 (d.tc : Thread nD τ) none Set.univ (op := t5) (S := ucRefs τ sig) (V := (t4.result (t3.result (t2.result (t1.result (v3 m d)))))) t5_sub (hf := rfl)) $$ [Hb Hbufs]
  · isplitl [Hb]; · iexact Hb
    iexact Hbufs
  iintro ⟨Hb, Hbufs⟩
  rw [wp_ret]; imodintro
  iapply (StableHlo.wp_hlo_within 𝒱 (d.tc : Thread nD τ) none Set.univ (op := t6) (S := ucRefs τ sig) (V := (t5.result (t4.result (t3.result (t2.result (t1.result (v3 m d))))))) t6_sub (hf := rfl)) $$ [Hb Hbufs]
  · isplitl [Hb]; · iexact Hb
    iexact Hbufs
  iintro ⟨Hb, Hbufs⟩
  rw [wp_ret]; imodintro
  iapply (StableHlo.wp_hlo_within 𝒱 (d.tc : Thread nD τ) none Set.univ (op := t7) (S := ucRefs τ sig) (V := (t6.result (t5.result (t4.result (t3.result (t2.result (t1.result (v3 m d)))))))) t7_sub (hf := rfl)) $$ [Hb Hbufs]
  · isplitl [Hb]; · iexact Hb
    iexact Hbufs
  iintro ⟨Hb, Hbufs⟩
  rw [wp_ret]; imodintro
  iapply (StableHlo.wp_hlo_within 𝒱 (d.tc : Thread nD τ) none Set.univ (op := t8) (S := ucRefs τ sig) (V := (t7.result (t6.result (t5.result (t4.result (t3.result (t2.result (t1.result (v3 m d))))))))) t8_sub (hf := rfl)) $$ [Hb Hbufs]
  · isplitl [Hb]; · iexact Hb
    iexact Hbufs
  iintro ⟨Hb, Hbufs⟩
  rw [wp_ret]; imodintro
  imodintro
  isplitl [Hst]; · unfold SparseCore.Cfg.tcSt; iexact Hst
  isplitl [Hbufs]; · iexact Hbufs
  isplitl [Hb]; · iexact Hb
  iexact Hts

/-! ## The launch element: the handshakes' rounds, the pipeline's rounds -/

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  unfold u₀
  iintro Hu
  ihave H := (ownU_pair (initOf (K (F := F)).hsCells (K (F := F)).hsToks)
    (initOf (Pipeline.cells (Pipeline.pin (pcfgs (F := F)) adm) phinj) (Pipeline.launchToks (Pipeline.pin (pcfgs (F := F)) adm) phinj), (1 : Counters))) $$ Hu
  icases H with ⟨HH, HP⟩
  ihave H := (own_pair_emb embR (initOf (Pipeline.cells (Pipeline.pin (pcfgs (F := F)) adm) phinj) (Pipeline.launchToks (Pipeline.pin (pcfgs (F := F)) adm) phinj))
    (1 : Counters)) $$ HP
  icases H with ⟨HP, -⟩
  ihave HP := (show (BI.own (((Emb.inl : Emb UP (UP × Counters)).trans embR)
      (initOf (Pipeline.cells (Pipeline.pin (pcfgs (F := F)) adm) phinj) (Pipeline.launchToks (Pipeline.pin (pcfgs (F := F)) adm) phinj))) : sProp 𝕄)
    ⊢ BI.own (EP (initOf (Pipeline.cells (Pipeline.pin (pcfgs (F := F)) adm) phinj) (Pipeline.launchToks (Pipeline.pin (pcfgs (F := F)) adm) phinj)))
    from BI.Entails.refl _) $$ HP
  imod (Pipeline.fund_ghost (nD := nD) (τ := τ) (Pipeline.pin (pcfgs (F := F)) adm) (EP (F := F)) phinj) $$ HP with ⟨Hc, Ht⟩
  imodintro
  isplitl [HH]; · iexact HH
  isplitl [Hc Ht]
  · rw [bigSep_sep']
    isplitl [Hc]
    · rw [show (bigSep Finset.univ fun c : Dev nD => bigSep Finset.univ fun p => cellsGhost (Pipeline.pin (pcfgs (F := F)) adm) (EP (F := F)) p c)
        = bigSep Finset.univ fun c : Dev nD => cellsGhost (Pipeline.pin (pcfgs (F := F)) adm) (EP (F := F)) 0 c from
        bigSep_congr fun _ _ => bigSep_univ_of_subsingleton (0 : Fin 1)]
      exact BI.Entails.refl _
    · rw [show (bigSep Finset.univ fun c : Dev nD => bigSep Finset.univ fun p => toksInit (Pipeline.pin (pcfgs (F := F)) adm) (EP (F := F)) p c)
        = bigSep Finset.univ fun c : Dev nD => toksInit (Pipeline.pin (pcfgs (F := F)) adm) (EP (F := F)) 0 c from
        bigSep_congr fun _ _ => bigSep_univ_of_subsingleton (0 : Fin 1)]
      exact BI.Entails.refl _
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_none]
  iempintro

/-! ## The run -/

def fq (d : Dev nD) (s' : Phys nD τ sig (Elt F)) : Prop := ∀ b ∈ ucRefs τ sig, s'.mem.mem (d, b) = v4 m d b

theorem hfin (d : Dev nD) (s' : Phys nD τ sig (Elt F)) : iprop(FIN m d ∗ SI s') ⊢ (⌜fq m d s'⌝ : sProp 𝕄) := by
  have one (b : {b // b ∈ ucRefs τ sig}) : iprop(FIN m d ∗ SI s') ⊢ (⌜s'.mem.mem (d, b.1) = v4 m d b.1⌝ : sProp 𝕄) := by
    iintro ⟨HF, HSI⟩
    ihave H := (show held (d.tc : Thread nD τ) (ucRefs τ sig) (v4 m d) ⊢ (((d, b.1) : Loc nD τ sig) ↦{fullShare} v4 m d b.1 : sProp 𝕄) from
      bigSep_elim b.2) $$ HF
    ihave H := (SI_pointsTo_agree (st := s') (ℓ := (d, b.1)) (I := Finset.univ) (q := fullShare) (f := v4 m d b.1)) $$ [HSI H]
    · isplitl [HSI] <;> iassumption
    icases H with %h
    ipureintro; exact funext fun i => h i (Finset.mem_univ i)
  exact ((Laws.forall_intro one).trans Laws.pure_forall.2).trans (Laws.pure_mono fun h b hb => h ⟨b, hb⟩)

/-- What a run ends with: every buffer of @main at its last contents, every counter at zero. -/
def QC : PUnit × MemSt nD τ sig (Elt F) → Prop := fun r => (∀ d : Dev nD, ∀ b ∈ ucRefs τ sig, r.2.mem (d, b) = v4 m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => Cert.Proof.Tile.tileObl m (sc' m) facts)
    (fun q _ => match q with | 0 => SparseCore.Cfg.VecSplit.of_plain (vecSplit m (sc' m)))
    m ρ main G (FIN m) (u₀ (F := F)) (sep_elim_left.trans (hu₀ m)) (hmain m ρ) (fq m) (hfin m) (QC m) (fun _ h hz => ⟨h, hz⟩)

end Cert.Proof.Launch

end
-- ==== Proof.Final.lean ====
/- What the program leaves in its buffers: the arguments as they were, each result as a term of the scores and the loss the
   gate region leaves. -/
module

public import proofs.«01_k».proof.Proof.Launch

@[expose] public section

noncomputable section

namespace Cert.Proof.Final

open Cert.KernelIdeal Cert.KernelIdeal.Gen
open Cert.Proof.Common Cert.Proof.Region Cert.Proof.Launch

open Idealize.ShloMosaic Idealize.ShloMosaic.TcCoe
open Idealize.ShloMosaic.StableHlo (held after seq)
open Idealize.ShloMosaic.Pipeline (ucRefs)
open Idealize.SL.Sem

variable {F : FTy → Type} [FloatOps F]
variable (m : (ℓ : Loc nD τ sig) → Buf (Elt F) ℓ) (ρ : Dev nD → PrngReg)

theorem v4_arg0 (d : Dev nD) : v4 m d (Proc.devRef .tc main_arg0) = m (d, Proc.devRef .tc main_arg0) := by
  unfold v4 tail
  after_results_simp
  rfl
theorem v4_arg1 (d : Dev nD) : v4 m d (Proc.devRef .tc main_arg1) = m (d, Proc.devRef .tc main_arg1) := by
  unfold v4 tail
  after_results_simp
  rfl

theorem uc_arg0 : (Proc.devRef .tc main_arg0 : DevRef τ sig) ∈ ucRefs τ sig := by decide +kernel
theorem uc_arg1 : (Proc.devRef .tc main_arg1 : DevRef τ sig) ∈ ucRefs τ sig := by decide +kernel
theorem uc_v6 : (Proc.devRef .tc main_v6 : DevRef τ sig) ∈ ucRefs τ sig := by decide +kernel
theorem uc_v8 : (Proc.devRef .tc main_v8 : DevRef τ sig) ∈ ucRefs τ sig := by decide +kernel
theorem uc_v10 : (Proc.devRef .tc main_v10 : DevRef τ sig) ∈ ucRefs τ sig := by decide +kernel

/-- The four values of every token, token by token. -/
abbrev rows (d : Dev nD) : (⟨S32x1024x4, .f32⟩ : BufTy).Contents (Elt F) := transpose S32x1024x4 [0, 2, 1] (Out (sc' m) d) transposes_S32x4x1024_S32x1024x4_0_2_1

theorem v4_v6 (d : Dev nD) : v4 m d (Proc.devRef .tc main_v6)
    = shapeCast S32768x2 (fptosi 32 (extractStridedSlice S32x1024x2 ![0, 0, 0] (rows m d) slices_S32x1024x4_S32x1024x2_0_0_0)) shapeCasts_S32x1024x2_S32768x2 := by
  unfold v4 tail
  after_results_simp
  rfl
theorem v4_v8 (d : Dev nD) : v4 m d (Proc.devRef .tc main_v8)
    = shapeCast S32768x2 (extractStridedSlice S32x1024x2 ![0, 0, 2] (rows m d) slices_S32x1024x4_S32x1024x2_0_0_2) shapeCasts_S32x1024x2_S32768x2 := by
  unfold v4 tail
  after_results_simp
  rfl
theorem v4_v10 (d : Dev nD) : v4 m d (Proc.devRef .tc main_v10)
    = shapeCast S_ (extractStridedSlice S1x1 ![0, 0] (v2 m d (Proc.devRef .tc main_v1_1)) slices_S8x128_S1x1_0_0) shapeCasts_S1x1_S_ := by
  unfold v4 tail
  after_results_simp
  rfl

end Cert.Proof.Final

end
-- ==== Proof.Values.lean ====
/- The kernel's three results over the scores, each equal to the reference's. -/
module

public import proofs.«01_k».proof.Proof.Loss
public import proofs.«01_k».proof.Proof.Final

@[expose] public section

set_option maxRecDepth 16384

noncomputable section

namespace Cert.Proof.Values

open Idealize.ShloMosaic Idealize.ShloMosaic.TcCoe
open Cert.KernelIdeal Cert.KernelIdeal.Gen
open Cert.Proof.Soft Cert.Proof.Rank Cert.Proof.Route
open Cert.Proof.GateVal (sco tok)

/-- The kernel's index and weight results of its routed array. -/
abbrev places (R : FVec Ideal S32x4x1024 .f32) : IVec S32768x2 32 :=
  shapeCast S32768x2 (fptosi 32 (extractStridedSlice S32x1024x2 ![0, 0, 0] (transpose S32x1024x4 [0, 2, 1] R transposes_S32x4x1024_S32x1024x4_0_2_1) slices_S32x1024x4_S32x1024x2_0_0_0)) shapeCasts_S32x1024x2_S32768x2
abbrev shares (R : FVec Ideal S32x4x1024 .f32) : FVec Ideal S32768x2 .f32 :=
  shapeCast S32768x2 (extractStridedSlice S32x1024x2 ![0, 0, 2] (transpose S32x1024x4 [0, 2, 1] R transposes_S32x4x1024_S32x1024x4_0_2_1) slices_S32x1024x4_S32x1024x2_0_0_2) shapeCasts_S32x1024x2_S32768x2

theorem places_at (R : FVec Ideal S32x4x1024 .f32) (b : Fin 32) (r : Fin 1024) (j : Fin 2) :
    places R (ix2 (tok b r) j) = Ideal.fptosi 32 (R (ix3 b (j.castLE (by decide)) r)) := by
  unfold tok
  pointwise [places]
  rfl

theorem shares_at (R : FVec Ideal S32x4x1024 .f32) (b : Fin 32) (r : Fin 1024) (j : Fin 2) :
    shares R (ix2 (tok b r) j) = R (ix3 b ⟨2 + j.val, by omega⟩ r) := by
  unfold tok
  pointwise [shares]

theorem back (e : Fin 8) : Ideal.fptosi 32 (((BitVec.ofNat 32 e.val).toInt : ℝ) : EReal) = BitVec.ofNat 32 e.val := by
  have h : ((BitVec.ofNat 32 e.val).toInt : ℝ) = (e.val : ℝ) := by
    have : (BitVec.ofNat 32 e.val).toInt = (e.val : ℤ) := by revert e; decide
    rw [this]; rfl
  rw [h]
  show BitVec.ofInt 32 (max (-(2 ^ (32 - 1) : ℕ) : ℤ) (min ((2 ^ (32 - 1) : ℕ) - 1 : ℤ) (if (0 : ℝ) ≤ (e.val : ℝ) then ⌊(e.val : ℝ)⌋ else ⌈(e.val : ℝ)⌉))) = _
  rw [if_pos (Nat.cast_nonneg _), Int.floor_natCast]
  clear h; revert e; decide

theorem weight (l : Fin 8 → EReal) (x : EReal) :
    x * Ideal.div 1 (soft l (top (soft l) 0) + soft l (top (soft l) 1) + Ideal.ofBits .f32 0x1E3CE508#32)
      = Ideal.div x (∑ k : Fin 2, soft l (top (soft l) k) + Ideal.ofBits .f32 0x1E3CE508#32) := by
  have hne : soft l (top (soft l) 0) + soft l (top (soft l) 1) + Ideal.ofBits .f32 0x1E3CE508#32 ≠ 0 := by
    rcases soft_cases l with h | h
    · rw [h, EReal.bot_add, EReal.bot_add]; exact EReal.bot_ne_zero
    · exact (lt_of_lt_of_le c_eps (le_add_of_nonneg_left (add_nonneg (h _) (h _)))).ne'
  rw [Fin.sum_univ_two]
  unfold Ideal.div
  rw [if_neg hne, if_neg hne, one_mul]

theorem c_one : Ideal.ofBits .f32 0x3F800000#32 = 1 := by
  simp [Ideal.ofBits, Ideal.ieee, -EReal.coe_mul]; norm_num

theorem route_idx (s : Fin 8 → EReal) (j : Fin 2) :
    Ideal.fptosi 32 (route (F := Ideal) s (j.castLE (by decide))) = BitVec.ofNat 32 (top s j).val := by
  obtain ⟨-, -, h1, h2⟩ := pass_top s
  match j with
  | 0 => exact (congrArg (fun b : BitVec 32 => Ideal.fptosi 32 ((b.toInt : ℝ) : EReal)) h1).trans (back _)
  | 1 => exact (congrArg (fun b : BitVec 32 => Ideal.fptosi 32 ((b.toInt : ℝ) : EReal)) h2).trans (back _)

theorem inv_eq (s : Fin 8 → EReal) : inv (F := Ideal) s = Ideal.div 1 (s (top s 0) + s (top s 1) + Ideal.ofBits .f32 0x1E3CE508#32) := by
  obtain ⟨h1, h2, -, -⟩ := pass_top s
  rw [← h1, ← h2, ← c_one]; rfl

theorem route_weight (l : Fin 8 → EReal) (j : Fin 2) :
    route (F := Ideal) (soft l) ⟨2 + j.val, by omega⟩
      = Ideal.div (soft l (top (soft l) j)) (∑ k : Fin 2, soft l (top (soft l) k) + Ideal.ofBits .f32 0x1E3CE508#32) := by
  obtain ⟨h1, h2, -, -⟩ := pass_top (soft l)
  rw [← weight, ← inv_eq]
  match j with
  | 0 => rw [← h1]; rfl
  | 1 => rw [← h2]; rfl

/-! ## The results -/

theorem tok_surj (t : Fin 32768) : ∃ b r, t = tok b r :=
  ⟨⟨t.val / 1024, by omega⟩, ⟨t.val % 1024, by omega⟩, Fin.ext (Nat.div_add_mod' t.val 1024).symm⟩

variable (H : FVec Ideal S32768x2048 .f32) (W : FVec Ideal S8x2048 .f32)

/-- The scores' array as the gate region leaves it. -/
abbrev blocks : FVec Ideal S32x8x1024 .f32 := fun i => sco H W (tok (i 0) (i 2)) (i 1)

theorem routed_at (b : Fin 32) (q : Fin 4) (r : Fin 1024) :
    routed (F := Ideal) (blocks H W) (ix3 b q r) = route (F := Ideal) (sco H W (tok b r)) q := rfl

abbrev refScores : FVec Ideal Cert.ReferenceIdeal.S32768x8 .f32 := RefVal.norm (RefVal.expo (RefVal.logits H W))

theorem refScores_row (t : Fin 32768) : (fun e => refScores H W (ix2 t e)) = sco H W t := funext fun e => RefVal.scores_at H W t e

theorem places_eq : places (routed (F := Ideal) (blocks H W)) = (RefVal.tops (refScores H W)).2 := by
  funext i
  obtain ⟨t, j, rfl⟩ : ∃ (t : Fin 32768) (j : Fin 2), i = ix2 t j := ⟨i 0, i 1, eq_ix2 i⟩
  obtain ⟨b, r, rfl⟩ := tok_surj t
  rw [places_at, routed_at, route_idx]
  refine Eq.trans ?_ (RefVal.tops_idx (refScores H W) _ j).symm
  rw [refScores_row]

theorem shares_eq : shares (routed (F := Ideal) (blocks H W)) = RefVal.weights (RefVal.tops (refScores H W)).1 := by
  funext i
  obtain ⟨t, j, rfl⟩ : ∃ (t : Fin 32768) (j : Fin 2), i = ix2 t j := ⟨i 0, i 1, eq_ix2 i⟩
  obtain ⟨b, r, rfl⟩ := tok_surj t
  rw [shares_at, routed_at]
  refine (route_weight _ j).trans (Eq.trans ?_ (RefVal.weights_at _ _ j).symm)
  simp only [RefVal.tops_val, refScores_row, RefVal.scores_at]
  rfl

theorem loss_eq (i : S_.Idx) : GateVal.loss (sco H W) = RefVal.lossOf (refScores H W) (RefVal.hots (RefVal.tops (refScores H W)).2) i := by
  rw [RefVal.loss_at]
  refine (Loss.eq _).trans (congrArg RefVal.loss (funext fun t => (refScores_row H W t).symm))

end Cert.Proof.Values

end
-- ==== Proof.Ends.lean ====
/- The kernel's three result buffers at the end of the run, as the reference's terms of the arguments. -/
module

public import proofs.«01_k».proof.Proof.Values

@[expose] public section

set_option maxRecDepth 16384

noncomputable section

namespace Cert.Proof.Ends

open Idealize.ShloMosaic Idealize.ShloMosaic.TcCoe
open Cert.KernelIdeal Cert.KernelIdeal.Gen
open Cert.Proof.Common Cert.Proof.Region Cert.Proof.Launch Cert.Proof.Final Cert.Proof.Values
open Cert.Proof.Route (routed)
open Cert.Proof.GateVal (sco)
open Idealize.SL.Sem

variable (m : (ℓ : Loc nD τ sig) → Buf (Elt Ideal) ℓ) (d : Dev nD)

/-- The activations as a matrix, and the weights. -/
abbrev hid : FVec Ideal S32768x2048 .f32 := shapeCast S32768x2048 (m (d, Proc.devRef .tc main_arg0)) shapeCasts_S4x8192x2048_S32768x2048
abbrev wts : FVec Ideal S8x2048 .f32 := m (d, Proc.devRef .tc main_arg1)

theorem v1_hid : v1 m d (Proc.devRef .tc main_v0) = hid m d := by
  unfold v1
  after_results_simp
  rfl
theorem v1_wts : v1 m d (Proc.devRef .tc main_arg1) = wts m d := by
  unfold v1
  after_results_simp
  rfl

theorem sc_eq : sc' m d = blocks (hid m d) (wts m d) := by
  show out (v1 m) d (Proc.devRef .tc main_v1_0) = _
  rw [← v1_hid, ← v1_wts]
  exact (out_arr (v1 m) d 2).symm.trans (GateVal.scores (v1 m) d)

theorem aux_eq : v2 m d (Proc.devRef .tc main_v1_1) = (fun _ => GateVal.loss (sco (hid m d) (wts m d)) : FVec Ideal S8x128 .f32) := by
  show out (v1 m) d (Proc.devRef .tc main_v1_1) = _
  rw [← v1_hid, ← v1_wts]
  exact (out_arr (v1 m) d 3).symm.trans (GateVal.losses (v1 m) d)

theorem end_v6 : v4 m d (Proc.devRef .tc main_v6) = (RefVal.tops (refScores (hid m d) (wts m d))).2 := by
  rw [v4_v6, ← places_eq, ← sc_eq]

theorem end_v8 : v4 m d (Proc.devRef .tc main_v8) = RefVal.weights (RefVal.tops (refScores (hid m d) (wts m d))).1 := by
  rw [v4_v8, ← shares_eq, ← sc_eq]

theorem end_v10 : v4 m d (Proc.devRef .tc main_v10)
    = RefVal.lossOf (refScores (hid m d) (wts m d)) (RefVal.hots (RefVal.tops (refScores (hid m d) (wts m d))).2) := by
  rw [v4_v10, aux_eq]
  funext i
  exact loss_eq (hid m d) (wts m d) i

end Cert.Proof.Ends

end
-- ==== Proof.Same.lean ====
/- The kernel and the program its idealization prints have the same text: the functions a processor runs under a label are
   the same, label by label. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

theorem bodies_eq : Cert.Kernel.defs₀ (F := F) = Cert.KernelIdeal.defs₀ (F := F) := by
  funext p ℓ a
  rcases p with _ | ⟨_⟩ | ⟨c, s⟩ <;> fin_cases ℓ <;> rfl

theorem defs_eq : Cert.Kernel.defs (F := F) = Cert.KernelIdeal.defs (F := F) :=
  congrArg (fun d => Cert.KernelIdeal.sc.defs (Pipeline.defs Cert.KernelIdeal.pcfgs d)) (bodies_eq (F := F))

theorem main_eq : Cert.Kernel.main (F := F) = Cert.KernelIdeal.main (F := F) := rfl

theorem threads_eq : Cert.Kernel.threads (F := F) = Cert.KernelIdeal.threads (F := F) := rfl

/-- What holds of one's runs holds of the other's. -/
theorem run_of (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (Cert.KernelIdeal.threads (F := F)) s Q) :
    θ_run (Cert.Kernel.defs (F := F)) (Cert.Kernel.threads (F := F)) s Q := by
  rw [defs_eq, threads_eq]; exact h

end Cert.Proof.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Ends
public import proofs.«01_k».proof.Proof.Same
public import Idealize.ShloMosaic.Adequacy
public import Idealize.ShloMosaic.Init

@[expose] public section

noncomputable section

namespace Cert.Proof

open Idealize.ShloMosaic Idealize.SL.Sem Cert.Kernel

/-- The run's last contents hold the arguments as they were, and its counters are zero. -/
theorem frame_run {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c =>
      ⟨(h.1 c _ Final.uc_arg0).trans (Final.v4_arg0 m c), (h.1 c _ Final.uc_arg1).trans (Final.v4_arg1 m c)⟩, h.2⟩)
    (Launch.run_main (F := F) m ρ)

theorem frame_ideal : Cert.quiescent_KernelIdeal := fun m ρ _ => frame_run m ρ

/-- The two programs have the same text. -/
theorem frame_kernel : Cert.quiescent_Kernel := fun m ρ _ => Same.run_of _ _ (frame_run (F := Bits) m ρ)

/-- The reference declares no semaphore. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The reference's results are its terms of the arguments, those of `Ends`. -/
theorem reference_run (m : (ℓ : Loc Cert.ReferenceIdeal.nD Cert.ReferenceIdeal.τ Cert.ReferenceIdeal.sig) → Buf (Elt Ideal) ℓ) (c : Dev Cert.ReferenceIdeal.nD)
    (H : FVec Ideal Cert.KernelIdeal.S32768x2048 .f32) (W : FVec Ideal Cert.KernelIdeal.S8x2048 .f32)
    (hH : shapeCast Cert.KernelIdeal.S32768x2048 (m ((c.tc : Thread Cert.ReferenceIdeal.nD Cert.ReferenceIdeal.τ).loc Cert.ReferenceIdeal.main_arg0)) Cert.ReferenceIdeal.Gen.shapeCasts_S4x8192x2048_S32768x2048 = H)
    (hW : m ((c.tc : Thread Cert.ReferenceIdeal.nD Cert.ReferenceIdeal.τ).loc Cert.ReferenceIdeal.main_arg1) = W) :
    Cert.ReferenceIdeal.Value.res_main_v19 m c = RefVal.weights (RefVal.tops (Values.refScores H W)).1
    ∧ Cert.ReferenceIdeal.Value.res_main_v33 m c = RefVal.lossOf (Values.refScores H W) (RefVal.hots (RefVal.tops (Values.refScores H W)).2) := by
  subst hH hW
  exact ⟨by unfold Cert.ReferenceIdeal.Value.res_main_v19; rfl, by unfold Cert.ReferenceIdeal.Value.res_main_v33; rfl⟩

theorem algebraic : Cert.algebraic_KernelIdeal_ReferenceIdeal := fun m g m' g' _ ha => by
  refine ⟨fun c => RefVal.tops (Values.refScores (Ends.hid m c) (Ends.wts m c)) |>.2,
    fun c => RefVal.weights (RefVal.tops (Values.refScores (Ends.hid m c) (Ends.wts m c))).1,
    fun c => RefVal.lossOf (Values.refScores (Ends.hid m c) (Ends.wts m c)) (RefVal.hots (RefVal.tops (Values.refScores (Ends.hid m c) (Ends.wts m c))).2), ?_, ?_⟩
  · exact (θ_run Cert.KernelIdeal.defs _ _).mono (fun _ h c =>
      ⟨(h.1 c _ Final.uc_v6).trans (Ends.end_v6 m c), (h.1 c _ Final.uc_v8).trans (Ends.end_v8 m c), (h.1 c _ Final.uc_v10).trans (Ends.end_v10 m c),
        (h.1 c _ Final.uc_arg0).trans (Final.v4_arg0 m c), (h.1 c _ Final.uc_arg1).trans (Final.v4_arg1 m c)⟩)
      (Launch.run_main (F := Ideal) m g)
  · refine (θ_run Cert.ReferenceIdeal.defs _ _).mono (fun _ h c => ?_) (Cert.ReferenceIdeal.Value.run (F := Ideal) m' g')
    obtain ⟨h0, h1, h2, h3, h4⟩ := h c
    obtain ⟨r1, r2⟩ := reference_run m' c (Ends.hid m c) (Ends.wts m c) (congrArg (fun x => shapeCast _ x _) (ha c).1) (ha c).2
    refine ⟨h0.trans ?_, h1.trans r1, h2.trans r2, h3, h4⟩
    rw [(ha c).1, (ha c).2]

theorem claim : Cert.Claim := ⟨Cert.Kernel.Gen.facts, Cert.KernelIdeal.Gen.facts, Cert.ReferenceIdeal.Gen.facts,
  frame_kernel, frame_ideal, frame_reference, trivial, algebraic⟩

end Cert.Proof

end
